-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x4352 : Shape := ⟨3, ![3, 1024, 4352]⟩
abbrev S4352x576 : Shape := ⟨2, ![4352, 576]⟩
abbrev S34x1152 : Shape := ⟨2, ![34, 1152]⟩
abbrev S4352x64 : Shape := ⟨2, ![4352, 64]⟩
abbrev S64x1152 : Shape := ⟨2, ![64, 1152]⟩
abbrev S3072x4352 : Shape := ⟨2, ![3072, 4352]⟩
abbrev S576x4352 : Shape := ⟨2, ![576, 4352]⟩
abbrev S64x4352 : Shape := ⟨2, ![64, 4352]⟩
abbrev S3072x1152 : Shape := ⟨2, ![3072, 1152]⟩
abbrev S3072x2176 : Shape := ⟨2, ![3072, 2176]⟩
abbrev S3x68x1024 : Shape := ⟨3, ![3, 68, 1024]⟩
abbrev S256x4352 : Shape := ⟨2, ![256, 4352]⟩
abbrev S256x1152 : Shape := ⟨2, ![256, 1152]⟩
abbrev S256x2176 : Shape := ⟨2, ![256, 2176]⟩
abbrev S1x68x256 : Shape := ⟨3, ![1, 68, 256]⟩
abbrev S1152x4352 : Shape := ⟨2, ![1152, 4352]⟩
abbrev S1152x64 : Shape := ⟨2, ![1152, 64]⟩
abbrev S4352x256 : Shape := ⟨2, ![4352, 256]⟩
abbrev S576x128 : Shape := ⟨2, ![576, 128]⟩
abbrev S1152x128 : Shape := ⟨2, ![1152, 128]⟩
abbrev S1x1152 : Shape := ⟨2, ![1, 1152]⟩
abbrev S128x1152 : Shape := ⟨2, ![128, 1152]⟩
abbrev S256x128 : Shape := ⟨2, ![256, 128]⟩
abbrev S128x256 : Shape := ⟨2, ![128, 256]⟩
abbrev S64x256 : Shape := ⟨2, ![64, 256]⟩
abbrev S16x256 : Shape := ⟨2, ![16, 256]⟩
abbrev S256 : Shape := ⟨1, ![256]⟩
abbrev S1x256 : Shape := ⟨2, ![1, 256]⟩
abbrev S32x256 : Shape := ⟨2, ![32, 256]⟩
abbrev S1x1x256 : Shape := ⟨3, ![1, 1, 256]⟩
abbrev S256x64 : Shape := ⟨2, ![256, 64]⟩
abbrev S1152x256 : Shape := ⟨2, ![1152, 256]⟩
abbrev S3x1024x1152 : Shape := ⟨3, ![3, 1024, 1152]⟩
abbrev S3x1024x2176 : Shape := ⟨3, ![3, 1024, 2176]⟩
abbrev S3x1024x68 : Shape := ⟨3, ![3, 1024, 68]⟩

abbrev nBuf : Space → Nat
  | .hbm => 14
  | .vmem => 16
  | .smem => 0
  | _ => 0

abbrev bufTy : (tb : Table) → Fin (tcTables nBuf tb) → BufTy
  | .hbm, ⟨0, _⟩ => ⟨S3x1024x4352, .bf16⟩
  | .hbm, ⟨1, _⟩ => ⟨S4352x576, .i8⟩
  | .hbm, ⟨2, _⟩ => ⟨S34x1152, .f32⟩
  | .hbm, ⟨3, _⟩ => ⟨S4352x64, .bf16⟩
  | .hbm, ⟨4, _⟩ => ⟨S64x1152, .bf16⟩
  | .hbm, ⟨5, _⟩ => ⟨S3072x4352, .bf16⟩
  | .hbm, ⟨6, _⟩ => ⟨S576x4352, .i8⟩
  | .hbm, ⟨7, _⟩ => ⟨S64x4352, .bf16⟩
  | .hbm, ⟨8, _⟩ => ⟨S3072x1152, .bf16⟩
  | .hbm, ⟨9, _⟩ => ⟨S3072x2176, .i8⟩
  | .hbm, ⟨10, _⟩ => ⟨S3x68x1024, .f32⟩
  | .hbm, ⟨11, _⟩ => ⟨S3x1024x1152, .bf16⟩
  | .hbm, ⟨12, _⟩ => ⟨S3x1024x2176, .i8⟩
  | .hbm, ⟨13, _⟩ => ⟨S3x1024x68, .f32⟩
  | .local _ .vmem, ⟨0, _⟩ => ⟨S256x4352, .bf16⟩
  | .local _ .vmem, ⟨1, _⟩ => ⟨S256x4352, .bf16⟩
  | .local _ .vmem, ⟨2, _⟩ => ⟨S576x4352, .i8⟩
  | .local _ .vmem, ⟨3, _⟩ => ⟨S34x1152, .f32⟩
  | .local _ .vmem, ⟨4, _⟩ => ⟨S64x4352, .bf16⟩
  | .local _ .vmem, ⟨5, _⟩ => ⟨S64x1152, .bf16⟩
  | .local _ .vmem, ⟨6, _⟩ => ⟨S256x1152, .bf16⟩
  | .local _ .vmem, ⟨7, _⟩ => ⟨S256x1152, .bf16⟩
  | .local _ .vmem, ⟨8, _⟩ => ⟨S256x2176, .i8⟩
  | .local _ .vmem, ⟨9, _⟩ => ⟨S256x2176, .i8⟩
  | .local _ .vmem, ⟨10, _⟩ => ⟨S1x68x256, .f32⟩
  | .local _ .vmem, ⟨11, _⟩ => ⟨S1x68x256, .f32⟩
  | .local _ .vmem, ⟨12, _⟩ => ⟨S1152x4352, .bf16⟩
  | .local _ .vmem, ⟨13, _⟩ => ⟨S1152x64, .bf16⟩
  | .local _ .vmem, ⟨14, _⟩ => ⟨S4352x256, .bf16⟩
  | .local _ .vmem, ⟨15, _⟩ => ⟨S4352x256, .bf16⟩
  | _, _ => ⟨S3x1024x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x4352 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S34x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4352 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2176 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x68x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S3x1024x4352 : Shape := ⟨3, ![3, 1024, 4352]⟩
abbrev S4352x576 : Shape := ⟨2, ![4352, 576]⟩
abbrev S34x1152 : Shape := ⟨2, ![34, 1152]⟩
abbrev S4352x64 : Shape := ⟨2, ![4352, 64]⟩
abbrev S64x1152 : Shape := ⟨2, ![64, 1152]⟩
abbrev S3x1024x68x64 : Shape := ⟨4, ![3, 1024, 68, 64]⟩
abbrev S_ : Shape := ⟨0, ![]⟩
abbrev S3x1024x68 : Shape := ⟨3, ![3, 1024, 68]⟩
abbrev S3x1024x68x1 : Shape := ⟨4, ![3, 1024, 68, 1]⟩
abbrev S34x576 : Shape := ⟨2, ![34, 576]⟩
abbrev S34x128x576 : Shape := ⟨3, ![34, 128, 576]⟩
abbrev S34x1x576 : Shape := ⟨3, ![34, 1, 576]⟩
abbrev S3x1024x576 : Shape := ⟨3, ![3, 1024, 576]⟩
abbrev S3x1024x576x1 : Shape := ⟨4, ![3, 1024, 576, 1]⟩
abbrev S3x1024x576x2 : Shape := ⟨4, ![3, 1024, 576, 2]⟩
abbrev S3x1024x1152 : Shape := ⟨3, ![3, 1024, 1152]⟩
abbrev S3x1024x64 : Shape := ⟨3, ![3, 1024, 64]⟩
abbrev S3x1024x2176 : Shape := ⟨3, ![3, 1024, 2176]⟩

abbrev nBuf : Space → Nat
  | .hbm => 102
  | .vmem => 0
  | .smem => 0
  | _ => 0

abbrev bufTy : (tb : Table) → Fin (tcTables nBuf tb) → BufTy
  | .hbm, ⟨0, _⟩ => ⟨S3x1024x4352, .bf16⟩
  | .hbm, ⟨1, _⟩ => ⟨S4352x576, .i8⟩
  | .hbm, ⟨2, _⟩ => ⟨S34x1152, .f32⟩
  | .hbm, ⟨3, _⟩ => ⟨S4352x64, .bf16⟩
  | .hbm, ⟨4, _⟩ => ⟨S64x1152, .bf16⟩
  | .hbm, ⟨5, _⟩ => ⟨S3x1024x4352, .f32⟩
  | .hbm, ⟨6, _⟩ => ⟨S3x1024x68x64, .f32⟩
  | .hbm, ⟨7, _⟩ => ⟨S3x1024x68x64, .f32⟩
  | .hbm, ⟨8, _⟩ => ⟨S_, .f32⟩
  | .hbm, ⟨9, _⟩ => ⟨S3x1024x68, .f32⟩
  | .hbm, ⟨10, _⟩ => ⟨S_, .f32⟩
  | .hbm, ⟨11, _⟩ => ⟨S3x1024x68, .f32⟩
  | .hbm, ⟨12, _⟩ => ⟨S3x1024x68, .i1⟩
  | .hbm, ⟨13, _⟩ => ⟨S_, .f32⟩
  | .hbm, ⟨14, _⟩ => ⟨S3x1024x68, .f32⟩
  | .hbm, ⟨15, _⟩ => ⟨S3x1024x68, .f32⟩
  | .hbm, ⟨16, _⟩ => ⟨S_, .f32⟩
  | .hbm, ⟨17, _⟩ => ⟨S_, .f32⟩
  | .hbm, ⟨18, _⟩ => ⟨S3x1024x68, .f32⟩
  | .hbm, ⟨19, _⟩ => ⟨S3x1024x68, .f32⟩
  | .hbm, ⟨20, _⟩ => ⟨S3x1024x68x1, .f32⟩
  | .hbm, ⟨21, _⟩ => ⟨S3x1024x68x64, .f32⟩
  | .hbm, ⟨22, _⟩ => ⟨S3x1024x68x64, .f32⟩
  | .hbm, ⟨23, _⟩ => ⟨S3x1024x68x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S3x1024x68x64, .f32⟩
  | .hbm, ⟨28, _⟩ => ⟨S3x1024x68x64, .f32⟩
  | .hbm, ⟨29, _⟩ => ⟨S_, .f32⟩
  | .hbm, ⟨30, _⟩ => ⟨S3x1024x68x64, .f32⟩
  | .hbm, ⟨31, _⟩ => ⟨S3x1024x68x64, .f32⟩
  | .hbm, ⟨32, _⟩ => ⟨S3x1024x68x64, .i32⟩
  | .hbm, ⟨33, _⟩ => ⟨S3x1024x68x64, .f32⟩
  | .hbm, ⟨34, _⟩ => ⟨S3x1024x68x64, .bf16⟩
  | .hbm, ⟨35, _⟩ => ⟨S3x1024x68, .bf16⟩
  | .hbm, ⟨36, _⟩ => ⟨S3x1024x68x1, .bf16⟩
  | .hbm, ⟨37, _⟩ => ⟨S3x1024x68x64, .bf16⟩
  | .hbm, ⟨38, _⟩ => ⟨S3x1024x68x64, .bf16⟩
  | .hbm, ⟨39, _⟩ => ⟨S3x1024x4352, .bf16⟩
  | .hbm, ⟨40, _⟩ => ⟨S4352x576, .i32⟩
  | .hbm, ⟨41, _⟩ => ⟨S_, .i32⟩
  | .hbm, ⟨42, _⟩ => ⟨S4352x576, .i32⟩
  | .hbm, ⟨43, _⟩ => ⟨S4352x576, .i32⟩
  | .hbm, ⟨44, _⟩ => ⟨S_, .i32⟩
  | .hbm, ⟨45, _⟩ => ⟨S4352x576, .i32⟩
  | .hbm, ⟨46, _⟩ => ⟨S4352x576, .i32⟩
  | .hbm, ⟨47, _⟩ => ⟨S_, .i32⟩
  | .hbm, ⟨48, _⟩ => ⟨S4352x576, .i32⟩
  | .hbm, ⟨49, _⟩ => ⟨S4352x576, .i32⟩
  | .hbm, ⟨50, _⟩ => ⟨S_, .i32⟩
  | .hbm, ⟨51, _⟩ => ⟨S4352x576, .i32⟩
  | .hbm, ⟨52, _⟩ => ⟨S4352x576, .i32⟩
  | .hbm, ⟨53, _⟩ => ⟨S_, .i32⟩
  | .hbm, ⟨54, _⟩ => ⟨S4352x576, .i32⟩
  | .hbm, ⟨55, _⟩ => ⟨S4352x576, .i32⟩
  | .hbm, ⟨56, _⟩ => ⟨S_, .i32⟩
  | .hbm, ⟨57, _⟩ => ⟨S4352x576, .i32⟩
  | .hbm, ⟨58, _⟩ => ⟨S4352x576, .i32⟩
  | .hbm, ⟨59, _⟩ => ⟨S34x576, .f32⟩
  | .hbm, ⟨60, _⟩ => ⟨S34x128x576, .i32⟩
  | .hbm, ⟨61, _⟩ => ⟨S34x128x576, .f32⟩
  | .hbm, ⟨62, _⟩ => ⟨S34x128x576, .bf16⟩
  | .hbm, ⟨63, _⟩ => ⟨S34x576, .bf16⟩
  | .hbm, ⟨64, _⟩ => ⟨S34x1x576, .bf16⟩
  | .hbm, ⟨65, _⟩ => ⟨S34x128x576, .bf16⟩
  | .hbm, ⟨66, _⟩ => ⟨S34x128x576, .bf16⟩
  | .hbm, ⟨67, _⟩ => ⟨S4352x576, .bf16⟩
  | .hbm, ⟨68, _⟩ => ⟨S3x1024x576, .f32⟩
  | .hbm, ⟨69, _⟩ => ⟨S34x576, .f32⟩
  | .hbm, ⟨70, _⟩ => ⟨S34x128x576, .i32⟩
  | .hbm, ⟨71, _⟩ => ⟨S34x128x576, .f32⟩
  | .hbm, ⟨72, _⟩ => ⟨S34x128x576, .bf16⟩
  | .hbm, ⟨73, _⟩ => ⟨S34x576, .bf16⟩
  | .hbm, ⟨74, _⟩ => ⟨S34x1x576, .bf16⟩
  | .hbm, ⟨75, _⟩ => ⟨S34x128x576, .bf16⟩
  | .hbm, ⟨76, _⟩ => ⟨S34x128x576, .bf16⟩
  | .hbm, ⟨77, _⟩ => ⟨S4352x576, .bf16⟩
  | .hbm, ⟨78, _⟩ => ⟨S3x1024x576, .f32⟩
  | .hbm, ⟨79, _⟩ => ⟨S3x1024x576x1, .f32⟩
  | .hbm, ⟨80, _⟩ => ⟨S3x1024x576x1, .f32⟩
  | .hbm, ⟨81, _⟩ => ⟨S3x1024x576x2, .f32⟩
  | .hbm, ⟨82, _⟩ => ⟨S3x1024x1152, .f32⟩
  | .hbm, ⟨83, _⟩ => ⟨S3x1024x64, .f32⟩
  | .hbm, ⟨84, _⟩ => ⟨S3x1024x64, .bf16⟩
  | .hbm, ⟨85, _⟩ => ⟨S3x1024x1152, .f32⟩
  | .hbm, ⟨86, _⟩ => ⟨S3x1024x1152, .f32⟩
  | .hbm, ⟨87, _⟩ => ⟨S3x1024x1152, .bf16⟩
  | .hbm, ⟨88, _⟩ => ⟨S3x1024x4352, .i32⟩
  | .hbm, ⟨89, _⟩ => ⟨S3x1024x2176, .i32⟩
  | .hbm, ⟨90, _⟩ => ⟨S_, .i32⟩
  | .hbm, ⟨91, _⟩ => ⟨S3x1024x2176, .i32⟩
  | .hbm, ⟨92, _⟩ => ⟨S3x1024x2176, .i32⟩
  | .hbm, ⟨93, _⟩ => ⟨S3x1024x2176, .i32⟩
  | .hbm, ⟨94, _⟩ => ⟨S_, .i32⟩
  | .hbm, ⟨95, _⟩ => ⟨S3x1024x2176, .i32⟩
  | .hbm, ⟨96, _⟩ => ⟨S3x1024x2176, .i32⟩
  | .hbm, ⟨97, _⟩ => ⟨S_, .i32⟩
  | .hbm, ⟨98, _⟩ => ⟨S3x1024x2176, .i32⟩
  | .hbm, ⟨99, _⟩ => ⟨S3x1024x2176, .i32⟩
  | .hbm, ⟨100, _⟩ => ⟨S3x1024x2176, .i32⟩
  | .hbm, ⟨101, _⟩ => ⟨S3x1024x2176, .i8⟩
  | _, _ => ⟨S3x1024x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Proof.Tile.lean ====
/- What the kernel computes from one tile of 128 activation columns and from one group of 128 weight rows, as functions of
   the tile: one definition for all 34 tiles, which the printed values of every tile unfold to. -/
module

public import proofs.«01_k».proof.Proof.Gen.KernelIdeal.Skeleton

@[expose] public section

set_option synthInstance.maxSize 4096

noncomputable section

namespace Cert.KernelIdeal.Tile

open Idealize.ShloMosaic Cert.KernelIdeal Cert.KernelIdeal.Gen

variable {F : FTy → Type} [FloatOps F]

/-- The tile, transposed: columns become rows. -/
def tr (v : Vec F S256x128 .bf16) : FVec F S128x256 .bf16 :=
  transpose S128x256 [1, 0] (shapeCast S256x128 v shapeCasts_S256x128_S256x128) transposes_S256x128_p1_0_S128x256

/-- The tile's first group of 64 columns. -/
def grpA (v : Vec F S256x128 .bf16) : FVec F S64x256 .bf16 :=
  extractStridedSlice S64x256 ![0, 0] (tr v) slices_S128x256_o0_0_S64x256

/-- The tile's second group of 64 columns. -/
def grpB (v : Vec F S256x128 .bf16) : FVec F S64x256 .bf16 :=
  extractStridedSlice S64x256 ![64, 0] (tr v) slices_S128x256_o64_0_S64x256

/-- A group's greatest absolute value, row by row. -/
def gmax (g : FVec F S64x256 .bf16) : FVec F S1x256 .f32 :=
  have a : FVec F S64x256 .bf16 := absf g
  shapeCast S1x256 (multiReduction .maximumf [0] S256
    (extf .f32 (maximumf
      (maximumf (extractStridedSlice S16x256 ![0, 0] a slices_S64x256_o0_0_S16x256) (extractStridedSlice S16x256 ![16, 0] a slices_S64x256_o16_0_S16x256))
      (maximumf (extractStridedSlice S16x256 ![32, 0] a slices_S64x256_o32_0_S16x256) (extractStridedSlice S16x256 ![48, 0] a slices_S64x256_o48_0_S16x256)))
      bitsLt_bf16_f32) 0xFF800000#32 reduces_S16x256_S256 (.inl rfl) rfl) shapeCasts_S256_S1x256

/-- A group's scale, row by row. -/
def scl (g : FVec F S64x256 .bf16) : FVec F S1x256 .f32 :=
  select (cmpf .ogt (gmax g) (broadcast S1x256 (Scalar.ofBits .f32 0x00000000#32)))
    (divf (gmax g) (broadcast S1x256 (Scalar.ofBits .f32 0x40E00000#32))) (broadcast S1x256 (Scalar.ofBits .f32 0x3F800000#32))

/-- A group's codes. -/
def qnt (g : FVec F S64x256 .bf16) : FVec F S64x256 .bf16 :=
  truncf .bf16 (minimumf (broadcast S64x256 (Scalar.ofBits .f32 0x40E00000#32))
    (maximumf (broadcast S64x256 (Scalar.ofBits .f32 0xC1000000#32))
      (roundeven (divf (extf .f32 g bitsLt_bf16_f32) (broadcastTo S64x256 (scl g) broadcasts_S1x256_S64x256))))) bitsLt_bf16_f32

/-- A group dequantised. -/
def deq (g : FVec F S64x256 .bf16) : FVec F S64x256 .bf16 :=
  mulf (qnt g) (broadcastTo S64x256 (truncf .bf16 (scl g) bitsLt_bf16_f32) broadcasts_S1x256_S64x256)

/-- A group's 32-bit words, each over two codes. -/
def wrd (g : FVec F S64x256 .bf16) : IVec S32x256 32 :=
  have w : IVec S32x256 32 := bitcast S32x256 32
    (addi (fptosi 16 (addf (qnt g) (broadcast S64x256 (Scalar.ofBits .bf16 0x4308#16)))) (broadcast S64x256 17024#16)) bitcasts_S64x256_w16_S32x256_w32
  xori w (shrui w (broadcast S32x256 12#32))

/-- The tile dequantised, transposed. -/
def deqT (v : Vec F S256x128 .bf16) : FVec F S128x256 .bf16 :=
  concatenate S128x256 0 [⟨S64x256, deq (grpA v)⟩, ⟨S64x256, deq (grpB v)⟩] concatenates_S64x256_S64x256_S128x256_d0

/-- What the tile stores into the dequantised activations. -/
def xdT (v : Vec F S256x128 .bf16) : FVec F S128x256 .bf16 :=
  shapeCast S128x256 (deqT v) shapeCasts_S128x256_S128x256

/-- What the tile stores into the transposed activations. -/
def xtT (v : Vec F S256x128 .bf16) : FVec F S128x256 .bf16 :=
  shapeCast S128x256 (tr v) shapeCasts_S128x256_S128x256

/-- The tile's packed codes. -/
def codT (v : Vec F S256x128 .bf16) : IVec S256x64 8 :=
  xori (trunci 8 (transpose S256x64 [1, 0]
    (concatenate S64x256 0 [⟨S32x256, wrd (grpA v)⟩, ⟨S32x256, wrd (grpB v)⟩] concatenates_S32x256_S32x256_S64x256_d0)
    transposes_S64x256_p1_0_S256x64) natLt_8_32) (broadcast S256x64 140#8)

/-- The first group's scales as stored. -/
def sclA (v : Vec F S256x128 .bf16) : FVec F S1x1x256 .f32 :=
  shapeCast S1x1x256 (scl (grpA v)) shapeCasts_S1x256_S1x1x256

/-- The second group's scales as stored. -/
def sclB (v : Vec F S256x128 .bf16) : FVec F S1x1x256 .f32 :=
  shapeCast S1x1x256 (scl (grpB v)) shapeCasts_S1x256_S1x1x256

/-- One group of 128 weight rows dequantised, transposed: from the packed bytes and the group's row of scales. -/
def wgt (p : Vec F S576x128 .i8) (s : Vec F S1x1152 .f32) : FVec F S1152x128 .bf16 :=
  have b : IVec S576x128 32 := extui 32 (xori (shapeCast S576x128 p shapeCasts_S576x128_S576x128) (broadcast S576x128 136#8)) natLt_8_32
  have w : IVec S576x128 32 := ori (andi (ori b (shli b (broadcast S576x128 12#32))) (broadcast S576x128 983055#32)) (broadcast S576x128 1124090624#32)
  shapeCast S1152x128
    (mulf (subf (bitcastToFloat .bf16 (bitcast S1152x128 16 w bitcasts_S576x128_w32_S1152x128_w16)) (broadcast S1152x128 (Scalar.ofBits .bf16 0x4308#16)))
      (transpose S1152x128 [1, 0] (broadcastTo S128x1152 (shapeCast S1x1152 (truncf .bf16 s bitsLt_bf16_f32) shapeCasts_S1x1152_S1x1152)
        broadcasts_S1x1152_S128x1152) transposes_S128x1152_p1_0_S1152x128)) shapeCasts_S1152x128_S1152x128

end Cert.KernelIdeal.Tile
-- ==== Proof.Blocks.lean ====
/- What one grid point leaves in each output block and in the two scratch buffers that the kernel carries, in terms of the
   blocks it reads: each is a list of 34 (or 68) stores of one function of the tile, or a product over such lists. -/
module

public import proofs.«01_k».proof.Proof.Gen.KernelIdeal.Frame
public import proofs.«01_k».proof.Proof.Tile
public import Idealize.ShloMosaic.Lib.Pipeline.ValueKit
public import Idealize.ShloMosaic.Lib.Pipeline.ReadBack
public import Idealize.ShloMosaic.Lib.Pipeline.ValueKit.Held

@[expose] public section

set_option maxRecDepth 16384
set_option maxHeartbeats 4000000

noncomputable section

namespace Cert.KernelIdeal.Blocks

open Idealize.ShloMosaic Idealize.ShloMosaic.TcCoe Idealize.ShloMosaic.Tactic
open Cert.KernelIdeal Cert.KernelIdeal.Gen Cert.KernelIdeal.Tile

/-- Tile `k` of the activations is within the block. -/
theorem inbX (k : Fin 34) (a : Fin 2) : (![0, 128 * k.val] : Fin 2 → ℕ) a + (![256, 128] : Fin 2 → ℕ) a ≤ S256x4352.size a := by
  have := k.isLt; fin_cases a <;> simp; omega

/-- The store of tile `k` of the packed codes lies within its array. -/
theorem inbC (k : Fin 34) (a : Fin 2) : (![0, 64 * k.val] : Fin 2 → ℕ) a + (![256, 64] : Fin 2 → ℕ) a ≤ S256x2176.size a := by
  have := k.isLt; fin_cases a <;> simp; omega

/-- The store of row `k` of the scales lies within its array. -/
theorem inbS (k : Fin 68) (a : Fin 3) : (![0, k.val, 0] : Fin 3 → ℕ) a + (![1, 1, 256] : Fin 3 → ℕ) a ≤ S1x68x256.size a := by
  have := k.isLt; fin_cases a <;> simp <;> omega

/-- The store of tile `k` of the transposed activations lies within its array. -/
theorem inbT (k : Fin 34) (a : Fin 2) : (![128 * k.val, 0] : Fin 2 → ℕ) a + (![128, 256] : Fin 2 → ℕ) a ≤ S4352x256.size a := by
  have := k.isLt; fin_cases a <;> simp; omega

/-- The read of tile `k` of the packed weights lies within its array. -/
theorem inbP (k : Fin 34) (a : Fin 2) : (![0, 128 * k.val] : Fin 2 → ℕ) a + (![576, 128] : Fin 2 → ℕ) a ≤ S576x4352.size a := by
  have := k.isLt; fin_cases a <;> simp; omega

/-- The read of row `k` of the weight scales lies within its array. -/
theorem inbG (k : Fin 34) (a : Fin 2) : (![k.val, 0] : Fin 2 → ℕ) a + (![1, 1152] : Fin 2 → ℕ) a ≤ S34x1152.size a := by
  have := k.isLt; fin_cases a <;> simp <;> omega

/-- The store of tile `k` of the dequantised weights lies within its array. -/
theorem inbW (k : Fin 34) (a : Fin 2) : (![0, 128 * k.val] : Fin 2 → ℕ) a + (![1152, 128] : Fin 2 → ℕ) a ≤ S1152x4352.size a := by
  have := k.isLt; fin_cases a <;> simp; omega

section Lists

variable {F : FTy → Type} [FloatOps F]

/-- Tile `k` of a block of activations. -/
def tile (x : Vec F S256x4352 .bf16) (k : Fin 34) : Vec F S256x128 .bf16 :=
  View.ld x (Rect.unit ![0, 128 * k.val] ![256, 128] (inbX k))

/-- The stores into the block of packed codes, the last first. -/
def codes (x : Vec F S256x4352 .bf16) : List (View.Piece (Elt F) S256x2176 .i8) :=
  List.ofFn fun k : Fin 34 => ⟨Rect.unit ![0, 64 * k.rev.val] ![256, 64] (inbC k.rev), codT (tile x k.rev)⟩

/-- The stored scales of group `k`. -/
def sclK (x : Vec F S256x4352 .bf16) (k : Fin 68) : FVec F S1x1x256 .f32 :=
  bif k.val % 2 == 0 then sclA (tile x ⟨k.val / 2, by omega⟩) else sclB (tile x ⟨k.val / 2, by omega⟩)

/-- The stores into the block of scales, the last first. -/
def scales (x : Vec F S256x4352 .bf16) : List (View.Piece (Elt F) S1x68x256 .f32) :=
  List.ofFn fun k : Fin 68 => ⟨Rect.unit ![0, k.rev.val, 0] ![1, 1, 256] (inbS k.rev), sclK x k.rev⟩

/-- The stores into the dequantised activations. -/
def xds (x : Vec F S256x4352 .bf16) : List (View.Piece (Elt F) S4352x256 .bf16) :=
  List.ofFn fun k : Fin 34 => ⟨Rect.unit ![128 * k.rev.val, 0] ![128, 256] (inbT k.rev), xdT (tile x k.rev)⟩

/-- The stores into the transposed activations. -/
def xts (x : Vec F S256x4352 .bf16) : List (View.Piece (Elt F) S4352x256 .bf16) :=
  List.ofFn fun k : Fin 34 => ⟨Rect.unit ![128 * k.rev.val, 0] ![128, 256] (inbT k.rev), xtT (tile x k.rev)⟩

/-- The stores into the dequantised weights. -/
def wts (p : Vec F S576x4352 .i8) (s : Vec F S34x1152 .f32) : List (View.Piece (Elt F) S1152x4352 .bf16) :=
  List.ofFn fun k : Fin 34 => ⟨Rect.unit ![0, 128 * k.rev.val] ![1152, 128] (inbW k.rev),
    wgt (View.ld p (Rect.unit ![0, 128 * k.rev.val] ![576, 128] (inbP k.rev))) (View.ld s (Rect.unit ![k.rev.val, 0] ![1, 1152] (inbG k.rev)))⟩

/-- The block of `y`: the weights times the dequantised activations, plus the low-rank product. -/
def yBlk (wt : FVec F S1152x4352 .bf16) (xd : FVec F S4352x256 .bf16) (l1t : FVec F S64x4352 .bf16) (xt : FVec F S4352x256 .bf16)
    (l2t : FVec F S1152x64 .bf16) : FVec F S256x1152 .bf16 :=
  transpose S256x1152 [1, 0] (truncf .bf16
    (addf (matmul dot_S1152x4352_S4352x256_S1152x256_1_0_0_1_n_n none wt xd (constant S1152x256 .f32 0x00000000#32))
      (matmul dot_S1152x64_S64x256_S1152x256_1_0_0_1_n_n none l2t
        (truncf .bf16 (matmul dot_S64x4352_S4352x256_S64x256_1_0_0_1_n_n none
          (shapeCast S64x4352 l1t shapeCasts_S64x4352_S64x4352) xt (constant S64x256 .f32 0x00000000#32)) bitsLt_bf16_f32)
        (constant S1152x256 .f32 0x00000000#32))) bitsLt_bf16_f32) transposes_S1152x256_p1_0_S256x1152

/-- The whole of a buffer after a list of stores. -/
def whole (L : List (View.Piece (Elt F) S4352x256 .bf16)) : FVec F S4352x256 .bf16 :=
  fun j => View.canon L ((Rect.unit (s := S4352x256) ![0, 0] ![4352, 256] inb_S4352x256_S4352x256_0_0).toLoadRect.idx j)

end Lists

variable (m : (ℓ : Loc nD τ sig) → Buf (Elt Ideal) ℓ) (c : Dev nD) (t : Fin cfg0.N)

/-- The packed codes that the first grid point leaves. -/
theorem codes_A (h : t.val % 12 = 0) (y : S256x2176.Idx) : (outsAt0 m c t.val t.isLt).2.1 y = View.canon (codes (iblk m c 0 t)) y := by
  rw [outsAt0_A m c t h]; frame_out; exact congrArg (fun l => View.canon l y) rfl

/-- The packed codes that a later grid point leaves. -/
theorem codes_B (h : ¬t.val % 12 = 0) (y : S256x2176.Idx) : (outsAt0 m c t.val t.isLt).2.1 y = View.canon (codes (iblk m c 0 t)) y := by
  rw [outsAt0_B m c t h]; frame_out; exact congrArg (fun l => View.canon l y) rfl

/-- The scales that the first grid point leaves. -/
theorem scales_A (h : t.val % 12 = 0) (y : S1x68x256.Idx) : (outsAt0 m c t.val t.isLt).2.2.1 y = View.canon (scales (iblk m c 0 t)) y := by
  rw [outsAt0_A m c t h]; frame_out; exact congrArg (fun l => View.canon l y) rfl

/-- The scales that a later grid point leaves. -/
theorem scales_B (h : ¬t.val % 12 = 0) (y : S1x68x256.Idx) : (outsAt0 m c t.val t.isLt).2.2.1 y = View.canon (scales (iblk m c 0 t)) y := by
  rw [outsAt0_B m c t h]; frame_out; exact congrArg (fun l => View.canon l y) rfl

/-- The dequantised weights that the first grid point leaves. -/
theorem wt_A (h : t.val % 12 = 0) (y : S1152x4352.Idx) :
    (outsAt0 m c t.val t.isLt).2.2.2.1 y = View.canon (wts (iblk m c 1 t) (iblk m c 2 t)) y := by
  rw [outsAt0_A m c t h]; frame_out; exact congrArg (fun l => View.canon l y) rfl

/-- A later grid point leaves the dequantised weights as it found them. -/
theorem wt_B (h : ¬t.val % 12 = 0) (y : S1152x4352.Idx) :
    (outsAt0 m c t.val t.isLt).2.2.2.1 y = (outsAt0 m c (t.val - 1) (Nat.lt_of_le_of_lt (Nat.sub_le _ _) t.isLt)).2.2.2.1 y := by
  rw [outsAt0_B m c t h]; rfl

/-- The first grid point leaves the second low-rank factor transposed. -/
theorem l2t_A (h : t.val % 12 = 0) (y : S1152x64.Idx) :
    (outsAt0 m c t.val t.isLt).2.2.2.2 y = k0_pay50 (iblk m c 4 t) y := by
  rw [outsAt0_A m c t h]; frame_out

/-- A later grid point leaves that factor as it found it. -/
theorem l2t_B (h : ¬t.val % 12 = 0) (y : S1152x64.Idx) :
    (outsAt0 m c t.val t.isLt).2.2.2.2 y = (outsAt0 m c (t.val - 1) (Nat.lt_of_le_of_lt (Nat.sub_le _ _) t.isLt)).2.2.2.2 y := by
  rw [outsAt0_B m c t h]; rfl

/-- The block of `y` that the first grid point leaves. -/
theorem y_A (h : t.val % 12 = 0) (y : S256x1152.Idx) :
    (outsAt0 m c t.val t.isLt).1 y
      = yBlk (fun j => View.canon (wts (iblk m c 1 t) (iblk m c 2 t)) ((Rect.unit (s := S1152x4352) ![0, 0] ![1152, 4352] inb_S1152x4352_S1152x4352_0_0).toLoadRect.idx j))
          (whole (xds (iblk m c 0 t))) (iblk m c 3 t) (whole (xts (iblk m c 0 t))) (k0_pay50 (iblk m c 4 t)) y := by
  rw [outsAt0_A m c t h]; frame_out
  simp only [View.readCov_eq_canon', read_unread_whole]
  exact congrFun rfl y

/-- The block of `y` that a later grid point leaves. -/
theorem y_B (h : ¬t.val % 12 = 0) (y : S256x1152.Idx) :
    (outsAt0 m c t.val t.isLt).1 y
      = yBlk (outsAt0 m c (t.val - 1) (Nat.lt_of_le_of_lt (Nat.sub_le _ _) t.isLt)).2.2.2.1 (whole (xds (iblk m c 0 t))) (iblk m c 3 t)
          (whole (xts (iblk m c 0 t))) (outsAt0 m c (t.val - 1) (Nat.lt_of_le_of_lt (Nat.sub_le _ _) t.isLt)).2.2.2.2 y := by
  rw [outsAt0_B m c t h]; frame_out
  simp only [View.readCov_eq_canon', read_unread_whole]
  exact congrFun rfl y

end Cert.KernelIdeal.Blocks
-- ==== Proof.Spec.lean ====
/- The mathematics of the result, element by element, in exact arithmetic: what a group's scale is, what an activation's
   4-bit code is, what a weight's 4-bit code is, which byte two activation codes pack into. Both programs are shown to
   compute these. -/
module

public import Idealize.ShloMosaic.Lib.Pipeline.ValueKit
public import Idealize.ShloMosaic.Lib.IdealHost

@[expose] public section

set_option maxRecDepth 16384

noncomputable section

namespace Cert.Spec

open Idealize.ShloMosaic

/-- The greatest absolute value of 64 numbers. -/
def amax (f : Fin 64 → EReal) : EReal :=
  (Finset.univ : Finset (Fin 64)).fold max (Ideal.ofBits .f32 0xFF800000#32) fun k => max (f k) (-(f k))

/-- The scale of a group whose greatest absolute value is `a`: `a / 7` if `a` is positive, else 1. -/
def scale (a : EReal) : EReal :=
  Scalar.select (Ideal.cmp .ogt a (Ideal.ofBits .f32 0x00000000#32)) (Ideal.div a (Ideal.ofBits .f32 0x40E00000#32))
    (Ideal.ofBits .f32 0x3F800000#32)

/-- The code of `v` at the scale `s`: `v / s` rounded to the nearest integer (ties to even), clipped to [−8, 7]. -/
def code (v s : EReal) : EReal :=
  min (Ideal.ofBits .f32 0x40E00000#32)
    (max (Ideal.ofBits .f32 0xC1000000#32) (Ideal.liftRound Ideal.roundHalfEven (Ideal.div v s)))

/-- The byte that holds two codes: the first in the low four bits, the second in the high four, in two's complement. -/
def byte (lo hi : EReal) : BitVec 8 :=
  ((Ideal.fptosi 32 lo &&& 15#32) ||| ((Ideal.fptosi 32 hi &&& 15#32) <<< 4)).setWidth 8

/-- The code that the low four bits of a packed weight byte hold. -/
def wlo (b : BitVec 8) : EReal := (((((b.setWidth 32 &&& 15#32) ^^^ 8#32) - 8#32).toInt : ℝ) : EReal)

/-- The code that the high four bits of a packed weight byte hold. -/
def whi (b : BitVec 8) : EReal := ((((((b.setWidth 32).sshiftRight 4) ^^^ 8#32) - 8#32).toInt : ℝ) : EReal)

/-- A code's bounds as numbers. -/
theorem ofBits_seven : Ideal.ofBits .f32 0x40E00000#32 = (((7 : ℤ) : ℝ) : EReal) := by
  simp [Ideal.ofBits, Ideal.ieee]; rw [← EReal.coe_mul]; norm_num

/-- The lower bound of a code as a number. -/
theorem ofBits_neg_eight : Ideal.ofBits .f32 0xC1000000#32 = (((-8 : ℤ) : ℝ) : EReal) := by
  simp [Ideal.ofBits, Ideal.ieee]; rw [← EReal.coe_mul]; norm_num

/-- The bias of a code word as a number. -/
theorem ofBits_bias : Ideal.ofBits .bf16 0x4308#16 = (((136 : ℤ) : ℝ) : EReal) := by
  simp [Ideal.ofBits, Ideal.ieee]

/-- A code is always one of the sixteen integers from −8 to 7. -/
theorem code_int (v s : EReal) : ∃ a : Fin 16, code v s = ((((a.val : ℤ) - 8 : ℤ) : ℝ) : EReal) := by
  have key : ∀ n : ℤ, -8 ≤ n → n ≤ 7 → ∃ a : Fin 16, ((n : ℝ) : EReal) = ((((a.val : ℤ) - 8 : ℤ) : ℝ) : EReal) := by
    intro n h1 h2
    refine ⟨⟨(n + 8).toNat, by omega⟩, ?_⟩
    have : ((((n + 8).toNat : ℕ) : ℤ) - 8 : ℤ) = n := by omega
    simp only [this]
  unfold code
  rw [ofBits_seven, ofBits_neg_eight]
  generalize Ideal.div v s = x
  induction x with
  | bot =>
    obtain ⟨a, ha⟩ := key (-8) (by omega) (by omega)
    refine ⟨a, ?_⟩
    rw [← ha, Ideal.liftRound_bot, max_eq_left bot_le, min_eq_right]
    exact EReal.coe_le_coe_iff.mpr (by norm_num)
  | top => simpa using key 7 (by omega) (by omega)
  | coe r =>
    rw [Ideal.liftRound_coe]
    have h := key (min 7 (max (-8) (Ideal.roundHalfEven r))) (by omega) (by omega)
    obtain ⟨a, ha⟩ := h
    refine ⟨a, ?_⟩
    rw [← ha]
    push_cast
    simp [EReal.coe_strictMono.monotone.map_min, EReal.coe_strictMono.monotone.map_max]

/-- An integer within the format's range converts to itself. -/
theorem fptosi_int (w : Nat) (n : ℤ) (h1 : -(2 ^ (w - 1) : Nat) ≤ n) (h2 : n ≤ (2 ^ (w - 1) : Nat) - 1) :
    Ideal.fptosi w ((n : ℝ) : EReal) = BitVec.ofInt w n := by
  unfold Ideal.fptosi
  congr 1
  show max _ (min _ (if (0 : ℝ) ≤ (n : ℝ) then ⌊(n : ℝ)⌋ else ⌈(n : ℝ)⌉)) = n
  rw [Int.floor_intCast, Int.ceil_intCast, ite_self]
  omega

/-- Converting a code to a 32-bit integer and back changes nothing. -/
theorem code_roundtrip (v s : EReal) : (((Ideal.fptosi 32 (code v s)).toInt : ℝ) : EReal) = code v s := by
  obtain ⟨a, ha⟩ := code_int v s
  have := a.isLt
  rw [ha, fptosi_int 32 _ (by norm_num; omega) (by norm_num; omega), BitVec.toInt_ofInt_eq_self (by decide) (by norm_num; omega) (by norm_num; omega)]

/-- The 16-bit word of a code: the code plus 136 as an integer, plus 17024. -/
def word (q : EReal) : BitVec 16 := Ideal.fptosi 16 (q + Ideal.ofBits .bf16 0x4308#16) + 17024#16

/-- The word of a code that is the integer `a - 8`. -/
theorem word_int (a : Fin 16) : word ((((a.val : ℤ) - 8 : ℤ) : ℝ) : EReal) = BitVec.ofInt 16 ((a.val : ℤ) + 128) + 17024#16 := by
  unfold word
  have := a.isLt
  rw [ofBits_bias, ← EReal.coe_add, ← Int.cast_add, fptosi_int 16 _ (by norm_num; omega) (by norm_num; omega)]
  congr 2; omega

/-- Two codes' words in one 32-bit word, folded by a shift and two exclusive ors, end in the byte that holds the codes. -/
theorem fold_words (v s v' s' : EReal) :
    ((word (code v' s') ++ word (code v s) : BitVec 32) ^^^ ((word (code v' s') ++ word (code v s) : BitVec 32) >>> 12)).setWidth 8 ^^^ 140#8
      = byte (code v s) (code v' s') := by
  obtain ⟨a, ha⟩ := code_int v s
  obtain ⟨b, hb⟩ := code_int v' s'
  have h1 := a.isLt
  have h2 := b.isLt
  rw [ha, hb, word_int, word_int]
  unfold byte
  rw [fptosi_int 32 _ (by norm_num; omega) (by norm_num; omega), fptosi_int 32 _ (by norm_num; omega) (by norm_num; omega)]
  exact (by decide +kernel : ∀ a b : Fin 16,
    ((((BitVec.ofInt 16 ((b.val : ℤ) + 128) + 17024#16) ++ (BitVec.ofInt 16 ((a.val : ℤ) + 128) + 17024#16) : BitVec 32)
      ^^^ (((BitVec.ofInt 16 ((b.val : ℤ) + 128) + 17024#16) ++ (BitVec.ofInt 16 ((a.val : ℤ) + 128) + 17024#16) : BitVec 32) >>> 12)).setWidth 8 ^^^ 140#8)
      = ((BitVec.ofInt 32 ((a.val : ℤ) - 8) &&& 15#32) ||| ((BitVec.ofInt 32 ((b.val : ℤ) - 8) &&& 15#32) <<< 4)).setWidth 8) a b

/-- The 32-bit word that a packed weight byte is spread over. -/
def spread (b : BitVec 8) : BitVec 32 :=
  let p := (b ^^^ 136#8).setWidth 32
  ((p ||| (p <<< 12)) &&& 983055#32) ||| 1124090624#32

/-- A bfloat16 whose bits are 0x4300 plus `k`, less than 16, is the number 128 + k. -/
theorem ofBits_code (k : Fin 16) : Ideal.ofBits .bf16 (17152#16 + BitVec.ofNat 16 k.val) = (((128 + k.val : ℤ) : ℝ) : EReal) := by
  fin_cases k <;> simp [Ideal.ofBits, Ideal.ieee]

/-- The low half of a spread byte, read as a bfloat16 and less 136, is the code of the byte's low four bits. -/
theorem spread_lo (b : BitVec 8) :
    Ideal.ofBits .bf16 ((spread b).extractLsb' 0 16) - Ideal.ofBits .bf16 0x4308#16 = wlo b := by
  obtain ⟨k, hk, hn⟩ := (by decide +kernel : ∀ b : BitVec 8, ∃ k : Fin 16, (spread b).extractLsb' 0 16 = 17152#16 + BitVec.ofNat 16 k.val
    ∧ (((b.setWidth 32 &&& 15#32) ^^^ 8#32) - 8#32).toInt = (128 + k.val : ℤ) - 136) b
  rw [hk, ofBits_code, ofBits_bias, ← EReal.coe_sub, ← Int.cast_sub, wlo, hn]

/-- The high half likewise gives the code of the byte's high four bits. -/
theorem spread_hi (b : BitVec 8) :
    Ideal.ofBits .bf16 ((spread b).extractLsb' 16 16) - Ideal.ofBits .bf16 0x4308#16 = whi b := by
  obtain ⟨k, hk, hn⟩ := (by decide +kernel : ∀ b : BitVec 8, ∃ k : Fin 16, (spread b).extractLsb' 16 16 = 17152#16 + BitVec.ofNat 16 k.val
    ∧ ((((b.setWidth 32).sshiftRight 4) ^^^ 8#32) - 8#32).toInt = (128 + k.val : ℤ) - 136) b
  rw [hk, ofBits_code, ofBits_bias, ← EReal.coe_sub, ← Int.cast_sub, whi, hn]

/-- The maximum over 16 of the maxima of four numbers is the maximum over the 64. -/
theorem fold_four (b : EReal) (f : Fin 64 → EReal) :
    ((Finset.univ : Finset (Fin 16)).fold max b fun k => max (max (f ⟨k.val, by omega⟩) (f ⟨16 + k.val, by omega⟩))
        (max (f ⟨32 + k.val, by omega⟩) (f ⟨48 + k.val, by omega⟩)))
      = (Finset.univ : Finset (Fin 64)).fold max b f := by
  refine eq_of_forall_ge_iff fun c => ?_
  simp only [Finset.fold_max_le, Finset.mem_univ, true_implies, max_le_iff]
  refine and_congr_right fun _ => ⟨fun h j => ?_, fun h j => ⟨⟨h _, h _⟩, h _, h _⟩⟩
  have hj := j.isLt
  obtain ⟨⟨h0, h1⟩, h2, h3⟩ := h ⟨j.val % 16, by omega⟩
  rcases (by omega : j.val = j.val % 16 ∨ j.val = 16 + j.val % 16 ∨ j.val = 32 + j.val % 16 ∨ j.val = 48 + j.val % 16) with e | e | e | e
  · rwa [show j = ⟨j.val % 16, by omega⟩ from Fin.ext e]
  · rwa [show j = ⟨16 + j.val % 16, by omega⟩ from Fin.ext e]
  · rwa [show j = ⟨32 + j.val % 16, by omega⟩ from Fin.ext e]
  · rwa [show j = ⟨48 + j.val % 16, by omega⟩ from Fin.ext e]

end Cert.Spec
-- ==== Proof.TileValue.lean ====
/- The tile's values at an index, over the extended reals. -/
module

public import proofs.«01_k».proof.Proof.Tile
public import proofs.«01_k».proof.Proof.Spec
public import Idealize.ShloMosaic.Lib.Pointwise
public import Idealize.ShloMosaic.Lib.BitcastPair
public import Idealize.ShloMosaic.Lib.Pipeline.ValueKit

@[expose] public section

set_option maxRecDepth 16384

noncomputable section

namespace Cert.KernelIdeal.Tile

open Idealize.ShloMosaic Cert.KernelIdeal Cert.KernelIdeal.Gen Cert.Spec

/-- Column `64 q + r` of row `c` of a tile: number `r` of the group `q`. -/
def at64 (v : Vec Ideal S256x128 .bf16) (q : Fin 2) (c : Fin 256) (r : Fin 64) : EReal := v (ix2 c ⟨64 * q.val + r.val, by omega⟩)

/-- The transposed tile at an index. -/
theorem tr_apply (v : Vec Ideal S256x128 .bf16) (j : S128x256.Idx) : tr v j = v (ix2 (j 1) (j 0)) := by
  unfold tr; pointwise

/-- A tile's first group of 64 columns. -/
theorem grpA_apply (v : Vec Ideal S256x128 .bf16) (j : S64x256.Idx) : grpA v j = at64 v 0 (j 1) (j 0) := by
  unfold grpA tr at64; pointwise

/-- A tile's second group of 64 columns. -/
theorem grpB_apply (v : Vec Ideal S256x128 .bf16) (j : S64x256.Idx) : grpB v j = at64 v 1 (j 1) (j 0) := by
  unfold grpB tr at64; pointwise

/-- A group's greatest absolute value at row `j 1`: over its 64 numbers there. -/
theorem gmax_apply (g : FVec Ideal S64x256 .bf16) (j : S1x256.Idx) : gmax g j = amax fun i => g (ix2 i (j 1)) := by
  have h (x : FVec Ideal S256 .f32) : shapeCast S1x256 x shapeCasts_S256_S1x256 j = x (ix1 (j 1)) := by pointwise
  unfold gmax
  refine (h _).trans ((Ideal.multiReduction_maximumf_single _ _ _ _ _ _).trans ?_)
  unfold amax
  rw [← fold_four]
  refine congrArg (Finset.fold max _ · _) (funext fun k => ?_)
  have e : reduces_S16x256_S256.lift (ix1 (j 1)) k = ix2 k (j 1) := by
    funext a
    fin_cases a
    · exact Fin.ext (Shape.Reduces.lift_val _ _ _ _)
    · exact Fin.ext (Shape.Reduces.lift_val _ _ _ _)
  rw [Function.comp_apply, e]
  pointwise
  rfl

/-- A group's scale row holds each activation row's scale. -/
theorem scl_apply (g : FVec Ideal S64x256 .bf16) (j : S1x256.Idx) : scl g j = scale (amax fun i => g (ix2 i (j 1))) := by
  rw [← gmax_apply]; rfl

/-- A group's quantised values are codes. -/
theorem qnt_apply (g : FVec Ideal S64x256 .bf16) (j : S64x256.Idx) : qnt g j = code (g j) (scale (amax fun i => g (ix2 i (j 1)))) := by
  have h : broadcastTo S64x256 (scl g) broadcasts_S1x256_S64x256 j = scl g (ix2 0 (j 1)) := by pointwise
  rw [scl_apply] at h
  unfold qnt code
  show min _ (max _ (Ideal.liftRound Ideal.roundHalfEven (Ideal.div (g j) (broadcastTo S64x256 (scl g) broadcasts_S1x256_S64x256 j)))) = _
  rw [h]; rfl

/-- A group's dequantised values are codes times scales. -/
theorem deq_apply (g : FVec Ideal S64x256 .bf16) (j : S64x256.Idx) : deq g j = code (g j) (scale (amax fun i => g (ix2 i (j 1)))) * scale (amax fun i => g (ix2 i (j 1))) := by
  have h : broadcastTo S64x256 (truncf .bf16 (scl g) bitsLt_bf16_f32) broadcasts_S1x256_S64x256 j = scl g (ix2 0 (j 1)) := by pointwise
  rw [scl_apply] at h
  unfold deq
  show qnt g j * broadcastTo S64x256 (truncf .bf16 (scl g) bitsLt_bf16_f32) broadcasts_S1x256_S64x256 j = _
  rw [h, qnt_apply]; rfl

/-- Two 16-bit rows read as one 32-bit row: the second is the high half. -/
theorem bc16 (x : S64x256.Idx → BitVec 16) (j : S32x256.Idx) : bitcast S32x256 32 x bitcasts_S64x256_w16_S32x256_w32 j
    = x (ix2 ⟨2 * (j 0).val + 1, by have := (j 0).isLt; simp at this; omega⟩ (j 1))
      ++ x (ix2 ⟨2 * (j 0).val, by have := (j 0).isLt; simp at this; omega⟩ (j 1)) := by
  rw [bitcast_16_32]
  congr 2 <;>
  · funext a
    fin_cases a
    · exact Fin.ext (Shape.Bitcasts.srcIdx_row _ _ _ _ 0 rfl)
    · exact Fin.ext (Shape.Bitcasts.srcIdx_other _ _ _ _ 1 (by decide))

/-- A 32-bit row read as two 16-bit rows: the low half comes first. -/
theorem bc32 (x : S576x128.Idx → BitVec 32) (j : S1152x128.Idx) : bitcast S1152x128 16 x bitcasts_S576x128_w32_S1152x128_w16 j
    = (x (ix2 ⟨(j 0).val / 2, by have := (j 0).isLt; simp at this; omega⟩ (j 1))).extractLsb' (16 * ((j 0).val % 2)) 16 := by
  rw [bitcast_32_16]
  congr 2
  funext a
  fin_cases a
  · exact Fin.ext (Shape.Bitcasts.srcIdx_row _ _ _ _ 0 rfl)
  · exact Fin.ext (Shape.Bitcasts.srcIdx_other _ _ _ _ 1 (by decide))

/-- A folded word's low byte, less the constant that marks it, is the byte of the two codes. -/
theorem wrd_apply (g : FVec Ideal S64x256 .bf16) (j : S32x256.Idx) :
    (wrd g j).setWidth 8 ^^^ 140#8 = byte (qnt g (ix2 ⟨2 * (j 0).val, by have := (j 0).isLt; simp at this; omega⟩ (j 1)))
      (qnt g (ix2 ⟨2 * (j 0).val + 1, by have := (j 0).isLt; simp at this; omega⟩ (j 1))) := by
  rw [qnt_apply, qnt_apply, ← fold_words, ← qnt_apply, ← qnt_apply]
  unfold wrd
  simp only [xori_apply, shrui_apply]
  rw [bc16]
  rfl

/-- The scale of group `q` of a tile at row `c`. -/
def gs (v : Vec Ideal S256x128 .bf16) (q : Fin 2) (c : Fin 256) : EReal := scale (amax (at64 v q c))

/-- The code of number `r` of group `q` of a tile at row `c`. -/
def gc (v : Vec Ideal S256x128 .bf16) (q : Fin 2) (c : Fin 256) (r : Fin 64) : EReal := code (at64 v q c r) (gs v q c)

/-- The codes of the first group. -/
theorem qntA (v : Vec Ideal S256x128 .bf16) (j : S64x256.Idx) : qnt (grpA v) j = gc v 0 (j 1) (j 0) := by
  rw [qnt_apply]; simp only [grpA_apply]; rfl

/-- The codes of the second group. -/
theorem qntB (v : Vec Ideal S256x128 .bf16) (j : S64x256.Idx) : qnt (grpB v) j = gc v 1 (j 1) (j 0) := by
  rw [qnt_apply]; simp only [grpB_apply]; rfl

/-- The dequantised first group. -/
theorem deqA (v : Vec Ideal S256x128 .bf16) (j : S64x256.Idx) : deq (grpA v) j = gc v 0 (j 1) (j 0) * gs v 0 (j 1) := by
  rw [deq_apply]; simp only [grpA_apply]; rfl

/-- The dequantised second group. -/
theorem deqB (v : Vec Ideal S256x128 .bf16) (j : S64x256.Idx) : deq (grpB v) j = gc v 1 (j 1) (j 0) * gs v 1 (j 1) := by
  rw [deq_apply]; simp only [grpB_apply]; rfl

/-- A byte of the tile's packed codes, in terms of the codes: byte `j 1` holds codes `2 (j 1)` and `2 (j 1) + 1` of the tile. -/
theorem codT_apply (v : Vec Ideal S256x128 .bf16) (j : S256x64.Idx) (q : Fin 2) (r r' : Fin 64)
    (h : 64 * q.val + r.val = 2 * (j 1).val) (h' : r'.val = r.val + 1) :
    codT v j = byte (gc v q (j 0) r) (gc v q (j 0) r') := by
  have hj := (j 1).isLt
  simp only [Matrix.cons_val_one, Matrix.cons_val_zero] at hj
  have e : codT v j = (if h : (j 1).val < 32 then wrd (grpA v) (ix2 ⟨(j 1).val, h⟩ (j 0))
      else wrd (grpB v) (ix2 ⟨(j 1).val - 32, by omega⟩ (j 0))).setWidth 8 ^^^ 140#8 := by
    unfold codT
    pointwise
    rfl
  rw [e]
  fin_cases q
  · rw [dif_pos (by simp at h; omega), wrd_apply, qntA, qntA]
    congr 2 <;> exact Fin.ext (by simp at h ⊢; omega)
  · rw [dif_neg (by simp at h; omega), wrd_apply, qntB, qntB]
    congr 2 <;> exact Fin.ext (by simp at h ⊢; omega)

/-- A number of the dequantised tile: its code times its group's scale. -/
theorem xdT_apply (v : Vec Ideal S256x128 .bf16) (j : S128x256.Idx) (q : Fin 2) (r : Fin 64) (h : 64 * q.val + r.val = (j 0).val) :
    xdT v j = gc v q (j 1) r * gs v q (j 1) := by
  have hj := (j 0).isLt
  simp only [Matrix.cons_val_zero] at hj
  have e : xdT v j = if h : (j 0).val < 64 then deq (grpA v) (ix2 ⟨(j 0).val, h⟩ (j 1))
      else deq (grpB v) (ix2 ⟨(j 0).val - 64, by omega⟩ (j 1)) := by
    unfold xdT deqT
    pointwise
  rw [e]
  fin_cases q
  · rw [dif_pos (by simp at h; omega), deqA]
    congr 2; exact Fin.ext (by simp at h ⊢; omega)
  · rw [dif_neg (by simp at h; omega), deqB]
    congr 2; exact Fin.ext (by simp at h ⊢; omega)

/-- A number of the transposed tile. -/
theorem xtT_apply (v : Vec Ideal S256x128 .bf16) (j : S128x256.Idx) : xtT v j = v (ix2 (j 1) (j 0)) := by
  unfold xtT tr; pointwise

/-- The first group's stored scales. -/
theorem sclA_apply (v : Vec Ideal S256x128 .bf16) (j : S1x1x256.Idx) : sclA v j = gs v 0 (j 2) := by
  have e : sclA v j = scl (grpA v) (ix2 0 (j 2)) := by unfold sclA; pointwise
  rw [e, scl_apply]; simp only [grpA_apply]; rfl

/-- The second group's stored scales. -/
theorem sclB_apply (v : Vec Ideal S256x128 .bf16) (j : S1x1x256.Idx) : sclB v j = gs v 1 (j 2) := by
  have e : sclB v j = scl (grpB v) (ix2 0 (j 2)) := by unfold sclB; pointwise
  rw [e, scl_apply]; simp only [grpB_apply]; rfl

/-- A dequantised weight: the code in the low or the high half of its packed byte, times the scale of its row. -/
theorem wgt_apply (p : Vec Ideal S576x128 .i8) (s : Vec Ideal S1x1152 .f32) (j : S1152x128.Idx) :
    wgt p s j = (if (j 0).val % 2 = 0 then wlo (p (ix2 ⟨(j 0).val / 2, by have := (j 0).isLt; simp at this; omega⟩ (j 1)))
      else whi (p (ix2 ⟨(j 0).val / 2, by have := (j 0).isLt; simp at this; omega⟩ (j 1)))) * s (ix2 0 (j 0)) := by
  have e : wgt p s j = (Ideal.ofBits .bf16 ((spread (p (ix2 ⟨(j 0).val / 2, by have := (j 0).isLt; simp at this; omega⟩ (j 1)))).extractLsb' (16 * ((j 0).val % 2)) 16)
      - Ideal.ofBits .bf16 0x4308#16) * s (ix2 0 (j 0)) := by
    unfold wgt
    pointwise
    rw [bc32]
    rfl
  rw [e]
  rcases Nat.mod_two_eq_zero_or_one (j 0).val with h | h
  · rw [h, if_pos rfl]; exact congrArg (· * _) (spread_lo _)
  · rw [h, if_neg (by decide)]; exact congrArg (· * _) (spread_hi _)

end Cert.KernelIdeal.Tile
-- ==== Proof.BlockValue.lean ====
/- The lists of stores read at an index, over the extended reals: the packed codes, the scales, the dequantised and the
   transposed activations and the dequantised weights, each in terms of the block that they come from. -/
module

public import proofs.«01_k».proof.Proof.Blocks
public import proofs.«01_k».proof.Proof.TileValue

@[expose] public section

set_option maxRecDepth 16384

noncomputable section

namespace Cert.KernelIdeal.Blocks

open Idealize.ShloMosaic Idealize.ShloMosaic.TcCoe Idealize.ShloMosaic.Tactic
open Cert.KernelIdeal Cert.KernelIdeal.Gen Cert.KernelIdeal.Tile Cert.Spec

variable (x : Vec Ideal S256x4352 .bf16)

/-- The scale of group `g` of a block's row `c`. -/
def bscale (c : Fin 256) (g : Fin 68) : EReal := scale (amax fun r => x (ix2 c ⟨64 * g.val + r.val, by omega⟩))

/-- The code of number `k` of a block's row `c`. -/
def bcode (c : Fin 256) (k : Fin 4352) : EReal := code (x (ix2 c k)) (bscale x c ⟨k.val / 64, by omega⟩)

/-- Tile `k` of a block holds columns `128 k` to `128 k + 127`. -/
theorem tile_apply (k : Fin 34) (j : S256x128.Idx) : tile x k j = x (ix2 (j 0) ⟨128 * k.val + (j 1).val, by have := (j 1).isLt; simp at this; omega⟩) := by
  unfold tile
  refine View.ld_unit_apply_of x _ _ _ j _ fun a => ?_
  fin_cases a <;> simp

/-- The scale of group `q` of tile `k` is the block's scale of group `2 k + q`. -/
theorem gs_tile (k : Fin 34) (q : Fin 2) (c : Fin 256) (g : Fin 68) (h : g.val = 2 * k.val + q.val) : gs (tile x k) q c = bscale x c g := by
  unfold gs bscale at64
  simp only [tile_apply]
  congr 2; funext r
  congr 2; exact Fin.ext (by simp; omega)

/-- The code at a place of group `q` of tile `k` is the block's code of that column. -/
theorem gc_tile (k : Fin 34) (q : Fin 2) (c : Fin 256) (r : Fin 64) (i : Fin 4352) (h : i.val = 128 * k.val + (64 * q.val + r.val)) :
    gc (tile x k) q c r = bcode x c i := by
  unfold gc bcode at64
  rw [tile_apply, gs_tile x k q c ⟨i.val / 64, by omega⟩ (by simp; omega)]
  congr 3; exact Fin.ext (by simp; omega)

/-- Stores of one shape that cover a buffer: an element has the value that the store over it writes there. -/
theorem canon_rev {S : Shape} {e : EltTy} {N : ℕ} (off : Fin N → Fin S.rank → ℕ) (size : Fin S.rank → ℕ) (inb : ∀ k a, off k a + size a ≤ S.size a)
    (P : (k : Fin N) → (Rect.unit (off k) size (inb k)).shape.Idx → Elt Ideal e) (y : S.Idx) (v : Elt Ideal e)
    (hc : ∃ k, ∀ a, off k a ≤ y a ∧ (y a : ℕ) < off k a + size a)
    (h : ∀ k (j : (Rect.unit (off k) size (inb k)).shape.Idx), (∀ a, (y a : ℕ) = off k a + (j a).val) → P k j = v) :
    View.canon (List.ofFn fun k : Fin N => (⟨Rect.unit (off k.rev) size (inb k.rev), P k.rev⟩ : View.Piece (Elt Ideal) S e)) y = v :=
  View.canon_ofFn_unit_eq_of_forall (fun k => off k.rev) size (fun k => inb k.rev) (fun k => P k.rev) y v
    (by obtain ⟨k, hk⟩ := hc; exact ⟨k.rev, by rw [Fin.rev_rev]; exact hk⟩) fun k => h k.rev

/-- A byte of the packed codes: those of the two numbers beside each other. -/
theorem codes_apply (y : S256x2176.Idx) (i i' : Fin 4352) (hi : i.val = 2 * (y 1).val) (hi' : i'.val = 2 * (y 1).val + 1) :
    View.canon (codes x) y = byte (bcode x (y 0) i) (bcode x (y 0) i') := by
  have hy : (y 1).val < 2176 := (y 1).isLt
  have hy0 : (y 0).val < 256 := (y 0).isLt
  refine canon_rev (e := .i8) (fun k : Fin 34 => ![0, 64 * k.val]) ![256, 64] inbC (fun k => codT (tile x k)) y _ ⟨⟨(y 1).val / 64, by omega⟩, ?_⟩ fun k j h => ?_
  · intro a; fin_cases a <;> simp <;> omega
  · have h0 : (y 0).val = 0 + (j 0).val := h 0
    have h1 : (y 1).val = 64 * k.val + (j 1).val := h 1
    have hj : (j 1).val < 64 := (j 1).isLt
    rw [show y 0 = j 0 from Fin.ext (by omega)]
    exact (codT_apply (tile x k) j ⟨(j 1).val / 32, by omega⟩ ⟨2 * ((j 1).val % 32), by omega⟩ ⟨2 * ((j 1).val % 32) + 1, by omega⟩ (by dsimp only; omega) rfl).trans
      (congrArg₂ byte (gc_tile x k _ _ _ i (by dsimp only; omega)) (gc_tile x k _ _ _ i' (by dsimp only; omega)))

/-- A stored scale. -/
theorem scales_apply (y : S1x68x256.Idx) : View.canon (scales x) y = bscale x (y 2) (y 1) := by
  have hy : (y 1).val < 68 := (y 1).isLt
  have hy0 : (y 0).val < 1 := (y 0).isLt
  have hy2 : (y 2).val < 256 := (y 2).isLt
  refine canon_rev (e := .f32) (fun k : Fin 68 => ![0, k.val, 0]) ![1, 1, 256] inbS (fun k => sclK x k) y _ ⟨y 1, ?_⟩ fun k j h => ?_
  · intro a; fin_cases a <;> simp <;> omega
  · have h1 : (y 1).val = k.val + (j 1).val := h 1
    have h2 : (y 2).val = 0 + (j 2).val := h 2
    have hj : (j 1).val < 1 := (j 1).isLt
    rw [show y 2 = j 2 from Fin.ext (by omega), show y 1 = k from Fin.ext (by omega)]
    unfold sclK
    rcases Nat.mod_two_eq_zero_or_one k.val with e | e
    · rw [e]; exact (sclA_apply _ j).trans (gs_tile x _ 0 _ k (by simp; omega))
    · rw [e]; exact (sclB_apply _ j).trans (gs_tile x _ 1 _ k (by simp; omega))

/-- A dequantised activation. -/
theorem xds_apply (y : S4352x256.Idx) : View.canon (xds x) y = bcode x (y 1) (y 0) * bscale x (y 1) ⟨(y 0).val / 64, by have : (y 0).val < 4352 := (y 0).isLt; omega⟩ := by
  have hy : (y 0).val < 4352 := (y 0).isLt
  have hy1 : (y 1).val < 256 := (y 1).isLt
  refine canon_rev (e := .bf16) (fun k : Fin 34 => ![128 * k.val, 0]) ![128, 256] inbT (fun k => xdT (tile x k)) y _ ⟨⟨(y 0).val / 128, by omega⟩, ?_⟩ fun k j h => ?_
  · intro a; fin_cases a <;> simp <;> omega
  · have h0 : (y 0).val = 128 * k.val + (j 0).val := h 0
    have h1 : (y 1).val = 0 + (j 1).val := h 1
    have hj : (j 0).val < 128 := (j 0).isLt
    rw [show y 1 = j 1 from Fin.ext (by omega)]
    exact (xdT_apply (tile x k) j ⟨(j 0).val / 64, by omega⟩ ⟨(j 0).val % 64, by omega⟩ (by dsimp only; omega)).trans
      (congrArg₂ (· * ·) (gc_tile x k _ _ _ (y 0) (by dsimp only; omega)) (gs_tile x k _ _ _ (by dsimp only; omega)))

/-- A transposed activation. -/
theorem xts_apply (y : S4352x256.Idx) : View.canon (xts x) y = x (ix2 (y 1) (y 0)) := by
  have hy : (y 0).val < 4352 := (y 0).isLt
  have hy1 : (y 1).val < 256 := (y 1).isLt
  refine canon_rev (e := .bf16) (fun k : Fin 34 => ![128 * k.val, 0]) ![128, 256] inbT (fun k => xtT (tile x k)) y _ ⟨⟨(y 0).val / 128, by omega⟩, ?_⟩ fun k j h => ?_
  · intro a; fin_cases a <;> simp <;> omega
  · have h0 : (y 0).val = 128 * k.val + (j 0).val := h 0
    have h1 : (y 1).val = 0 + (j 1).val := h 1
    rw [show y 1 = j 1 from Fin.ext (by omega)]
    refine (xtT_apply (tile x k) j).trans ((tile_apply x k _).trans (congrArg x (congrArg₂ ix2 rfl (Fin.ext ?_))))
    exact h0.symm

/-- A dequantised weight: the code in the low or the high half of its packed byte, times the scale of its row's group. -/
theorem wts_apply (p : Vec Ideal S576x4352 .i8) (s : Vec Ideal S34x1152 .f32) (y : S1152x4352.Idx) :
    View.canon (wts p s) y
      = (if (y 0).val % 2 = 0 then wlo (p (ix2 ⟨(y 0).val / 2, by have : (y 0).val < 1152 := (y 0).isLt; omega⟩ (y 1)))
          else whi (p (ix2 ⟨(y 0).val / 2, by have : (y 0).val < 1152 := (y 0).isLt; omega⟩ (y 1))))
        * s (ix2 ⟨(y 1).val / 128, by have : (y 1).val < 4352 := (y 1).isLt; omega⟩ (y 0)) := by
  have hy : (y 0).val < 1152 := (y 0).isLt
  have hy1 : (y 1).val < 4352 := (y 1).isLt
  refine canon_rev (e := .bf16) (fun k : Fin 34 => ![0, 128 * k.val]) ![1152, 128] inbW (fun k => wgt (View.ld p (Rect.unit ![0, 128 * k.val] ![576, 128] (inbP k)))
    (View.ld s (Rect.unit ![k.val, 0] ![1, 1152] (inbG k)))) y _ ⟨⟨(y 1).val / 128, by omega⟩, ?_⟩ fun k j h => ?_
  · intro a; fin_cases a <;> simp <;> omega
  · have h0 : (y 0).val = 0 + (j 0).val := h 0
    have h1 : (y 1).val = 128 * k.val + (j 1).val := h 1
    have hj : (j 1).val < 128 := (j 1).isLt
    have hj0 : (j 0).val < 1152 := (j 0).isLt
    have hp : View.ld p (Rect.unit ![0, 128 * k.val] ![576, 128] (inbP k)) (ix2 ⟨(j 0).val / 2, by omega⟩ (j 1)) = p (ix2 ⟨(y 0).val / 2, by omega⟩ (y 1)) := by
      refine View.ld_unit_apply_of p _ _ _ _ _ fun a => ?_
      fin_cases a <;> simp <;> omega
    have hs : View.ld s (Rect.unit ![k.val, 0] ![1, 1152] (inbG k)) (ix2 0 (j 0)) = s (ix2 ⟨(y 1).val / 128, by omega⟩ (y 0)) := by
      refine View.ld_unit_apply_of s _ _ _ _ _ fun a => ?_
      fin_cases a <;> simp <;> omega
    refine (wgt_apply _ _ j).trans ?_
    rw [hp, hs, show (j 0).val = (y 0).val by omega]

/-- A whole buffer read back is the buffer. -/
theorem whole_apply (L : List (View.Piece (Elt Ideal) S4352x256 .bf16)) (y : S4352x256.Idx) : whole L y = View.canon L y := by
  unfold whole
  refine congrArg _ (funext fun a => Fin.ext ?_)
  fin_cases a <;> simp [Rect.idx_unit_val]

end Cert.KernelIdeal.Blocks
-- ==== Proof.Target.lean ====
/- The three results as functions of the five argument arrays over the extended reals: what both programs compute. -/
module

public import proofs.«01_k».proof.Proof.Spec
public import Idealize.ShloMosaic.Lib.Pointwise

@[expose] public section

noncomputable section

namespace Cert.Target

open Idealize.ShloMosaic Cert.Spec

/-- An array of extended reals of a given shape of rank three; the activations. -/
abbrev Acts : Type := (⟨3, ![3, 1024, 4352]⟩ : Shape).Idx → EReal

/-- The scale of group `g` of row `s` of batch `b`. -/
def xscale (X : Acts) (b : Fin 3) (s : Fin 1024) (g : Fin 68) : EReal :=
  scale (amax fun r => X (ix3 b s ⟨64 * g.val + r.val, by omega⟩))

/-- The code of activation `k` of row `s` of batch `b`. -/
def xcode (X : Acts) (b : Fin 3) (s : Fin 1024) (k : Fin 4352) : EReal :=
  code (X (ix3 b s k)) (xscale X b s ⟨k.val / 64, by omega⟩)

/-- A dequantised activation. -/
def xdeq (X : Acts) (b : Fin 3) (s : Fin 1024) (k : Fin 4352) : EReal := xcode X b s k * xscale X b s ⟨k.val / 64, by omega⟩

/-- The dequantised weight from input `k` to output `n`: outputs `2 j` and `2 j + 1` share byte `j`. -/
def wdeq (P : (⟨2, ![4352, 576]⟩ : Shape).Idx → BitVec 8) (S : (⟨2, ![34, 1152]⟩ : Shape).Idx → EReal) (n : Fin 1152) (k : Fin 4352) : EReal :=
  (if n.val % 2 = 0 then wlo (P (ix2 k ⟨n.val / 2, by omega⟩)) else whi (P (ix2 k ⟨n.val / 2, by omega⟩))) * S (ix2 ⟨k.val / 128, by omega⟩ n)

/-- The first result. -/
def y (X : Acts) (P : (⟨2, ![4352, 576]⟩ : Shape).Idx → BitVec 8) (S : (⟨2, ![34, 1152]⟩ : Shape).Idx → EReal)
    (L1 : (⟨2, ![4352, 64]⟩ : Shape).Idx → EReal) (L2 : (⟨2, ![64, 1152]⟩ : Shape).Idx → EReal) (b : Fin 3) (s : Fin 1024) (n : Fin 1152) : EReal :=
  (∑ k : Fin 4352, wdeq P S n k * xdeq X b s k) + ∑ r : Fin 64, L2 (ix2 r n) * ∑ k : Fin 4352, L1 (ix2 k r) * X (ix3 b s k)

/-- The second result: byte `j` holds codes `2 j` and `2 j + 1`. -/
def packed (X : Acts) (b : Fin 3) (s : Fin 1024) (j : Fin 2176) : BitVec 8 :=
  byte (xcode X b s ⟨2 * j.val, by omega⟩) (xcode X b s ⟨2 * j.val + 1, by omega⟩)

end Cert.Target
-- ==== Proof.Points.lean ====
/- What each grid point leaves, in terms of the argument arrays: point `t` has rows 256 (t % 4) … of batch `t / 4`. -/
module

public import proofs.«01_k».proof.Proof.BlockValue
public import proofs.«01_k».proof.Proof.Target
public import Idealize.ShloMosaic.Lib.Claim

@[expose] public section

set_option maxRecDepth 16384

noncomputable section

namespace Cert.KernelIdeal.Points

open Idealize.ShloMosaic Idealize.ShloMosaic.TcCoe Idealize.ShloMosaic.Tactic
open Cert.KernelIdeal Cert.KernelIdeal.Gen Cert.KernelIdeal.Tile Cert.KernelIdeal.Blocks Cert.Spec

variable (m : (ℓ : Loc nD τ sig) → Buf (Elt Ideal) ℓ) (c : Dev nD)

/-- Which block each window takes at a point. -/
theorem idx (t : Fin cfg0.N) : win0_0.index t = ![t.val, 0] ∧ win0_1.index t = ![0, 0] ∧ win0_2.index t = ![0, 0] ∧ win0_3.index t = ![0, 0] ∧ win0_4.index t = ![0, 0]
   ∧ win0_5.index t = ![t.val, 0] ∧ win0_6.index t = ![t.val, 0] ∧ win0_7.index t = ![t.val / 4, 0, t.val % 4] :=
  (by decide +kernel : ∀ t : Fin cfg0.N, win0_0.index t = ![t.val, 0] ∧ win0_1.index t = ![0, 0] ∧ win0_2.index t = ![0, 0] ∧ win0_3.index t = ![0, 0] ∧ win0_4.index t = ![0, 0]
   ∧ win0_5.index t = ![t.val, 0] ∧ win0_6.index t = ![t.val, 0] ∧ win0_7.index t = ![t.val / 4, 0, t.val % 4]) t

/-- There are twelve points. -/
theorem lt (t : Fin cfg0.N) : t.val < 12 := t.isLt

/-- The activations as the region finds them: with the two leading axes merged. -/
theorem V_v0 : V m c main_v0 = shapeCast S3072x4352 (m ((c : Thread nD τ).loc main_arg0)) shapeCasts_S3x1024x4352_S3072x4352 := rfl

/-- The packed weights as the region finds them: transposed. -/
theorem V_v1 : V m c main_v1 = transpose S576x4352 [1, 0] (m ((c : Thread nD τ).loc main_arg1)) transposes_S4352x576_S576x4352_1_0 := rfl

/-- The first low-rank factor as the region finds it: transposed. -/
theorem V_v2 : V m c main_v2 = transpose S64x4352 [1, 0] (m ((c : Thread nD τ).loc main_arg3)) transposes_S4352x64_S64x4352_1_0 := rfl

/-- An activation as the region finds it. -/
theorem V_v0_apply (j : S3072x4352.Idx) : V m c main_v0 j = m ((c : Thread nD τ).loc main_arg0)
    (ix3 ⟨(j 0).val / 1024, by have : (j 0).val < 3072 := (j 0).isLt; omega⟩ ⟨(j 0).val % 1024, by omega⟩ (j 1)) := by
  have h (X : S3x1024x4352.Idx → EReal) : shapeCast S3072x4352 X shapeCasts_S3x1024x4352_S3072x4352 j = X
    (ix3 ⟨(j 0).val / 1024, by have : (j 0).val < 3072 := (j 0).isLt; omega⟩ ⟨(j 0).val % 1024, by omega⟩ (j 1)) := by pointwise
  exact h _

/-- A point's block of activations. -/
theorem blk_x (t : Fin cfg0.N) (i : S256x4352.Idx) : iblk m c 0 t i
    = m ((c : Thread nD τ).loc main_arg0) (ix3 ⟨t.val / 4, by have := lt t; omega⟩ ⟨256 * (t.val % 4) + (i 0).val, by have : (i 0).val < 256 := (i 0).isLt; omega⟩ (i 1)) := by
  have := lt t
  blk_simp [iblk, idx t]
  refine (V_v0_apply m c _).trans ?_
  blk_ext [idx t]

/-- A point's packed weights. -/
theorem blk_p (t : Fin cfg0.N) (i : S576x4352.Idx) : iblk m c 1 t i = m ((c : Thread nD τ).loc main_arg1) (ix2 (i 1) (i 0)) := by
  blk_simp [iblk, idx t]
  rw [V_v1]
  pointwise
  blk_ext [idx t]

/-- A point's weight scales. -/
theorem blk_s (t : Fin cfg0.N) (i : S34x1152.Idx) : iblk m c 2 t i = m ((c : Thread nD τ).loc main_arg2) i := by
  blk_ext [iblk, V, idx t]

/-- A point's first low-rank factor. -/
theorem blk_l1 (t : Fin cfg0.N) (i : S64x4352.Idx) : iblk m c 3 t i = m ((c : Thread nD τ).loc main_arg3) (ix2 (i 1) (i 0)) := by
  blk_simp [iblk, idx t]
  rw [V_v2]
  pointwise
  blk_ext [idx t]

/-- A point's second low-rank factor. -/
theorem blk_l2 (t : Fin cfg0.N) (i : S64x1152.Idx) : iblk m c 4 t i = m ((c : Thread nD τ).loc main_arg4) i := by
  blk_ext [iblk, V, idx t]

/-- An element of the block of `y`, as sums. -/
theorem yBlk_apply (wt : FVec Ideal S1152x4352 .bf16) (xd : FVec Ideal S4352x256 .bf16) (l1t : FVec Ideal S64x4352 .bf16) (xt : FVec Ideal S4352x256 .bf16)
    (l2t : FVec Ideal S1152x64 .bf16) (y : S256x1152.Idx) : yBlk wt xd l1t xt l2t y
     = (∑ k : Fin 4352, wt (ix2 (y 1) k) * xd (ix2 k (y 0))) + ∑ r : Fin 64, l2t (ix2 (y 1) r) * ∑ k : Fin 4352, l1t (ix2 r k) * xt (ix2 k (y 0)) := by
  unfold yBlk; pointwise

/-- The second low-rank factor as the first point stores it. -/
theorem l2t_apply (x : Vec Ideal S64x1152 .bf16) (y : S1152x64.Idx) : k0_pay50 x y = x (ix2 (y 1) (y 0)) := by
  unfold k0_pay50; pointwise

/-- The argument arrays on a core. -/
abbrev X : Target.Acts := m ((c : Thread nD τ).loc main_arg0)
@[inherit_doc X] abbrev P : (⟨2, ![4352, 576]⟩ : Shape).Idx → BitVec 8 := m ((c : Thread nD τ).loc main_arg1)
@[inherit_doc X] abbrev S : (⟨2, ![34, 1152]⟩ : Shape).Idx → EReal := m ((c : Thread nD τ).loc main_arg2)
@[inherit_doc X] abbrev L1 : (⟨2, ![4352, 64]⟩ : Shape).Idx → EReal := m ((c : Thread nD τ).loc main_arg3)
@[inherit_doc X] abbrev L2 : (⟨2, ![64, 1152]⟩ : Shape).Idx → EReal := m ((c : Thread nD τ).loc main_arg4)

/-- The batch of a point. -/
def bat (t : Fin cfg0.N) : Fin 3 := ⟨t.val / 4, by have := lt t; omega⟩

/-- The row of the batch that row `r` of a point's block is. -/
def row (t : Fin cfg0.N) (r : Fin 256) : Fin 1024 := ⟨256 * (t.val % 4) + r.val, by omega⟩

/-- A scale of the block is one of the array. -/
theorem bscale_eq (t : Fin cfg0.N) (r : Fin 256) (g : Fin 68) : bscale (iblk m c 0 t) r g = Target.xscale (X m c) (bat t) (row t r) g := by
  unfold bscale Target.xscale
  exact congrArg scale (congrArg amax (funext fun i => blk_x m c t _))

/-- A code of the block is one of the array. -/
theorem bcode_eq (t : Fin cfg0.N) (r : Fin 256) (k : Fin 4352) : bcode (iblk m c 0 t) r k = Target.xcode (X m c) (bat t) (row t r) k := by
  unfold bcode Target.xcode
  exact congrArg₂ code (blk_x m c t _) (bscale_eq m c t r _)

/-- The packed codes that a point leaves. -/
theorem codes_at (t : Fin cfg0.N) (y : S256x2176.Idx) : (outsAt0 m c t.val t.isLt).2.1 y = Target.packed (X m c) (bat t) (row t (y 0)) (y 1) := by
  have hy : (y 1).val < 2176 := (y 1).isLt
  have h : (outsAt0 m c t.val t.isLt).2.1 y = View.canon (codes (iblk m c 0 t)) y := by
    by_cases h : t.val % 12 = 0
    · exact codes_A m c t h y
    · exact codes_B m c t h y
  refine h.trans ((codes_apply _ y ⟨2 * (y 1).val, by omega⟩ ⟨2 * (y 1).val + 1, by omega⟩ rfl rfl).trans ?_)
  exact congrArg₂ byte (bcode_eq m c t _ _) (bcode_eq m c t _ _)

/-- The scales that a point leaves. -/
theorem scales_at (t : Fin cfg0.N) (y : S1x68x256.Idx) : (outsAt0 m c t.val t.isLt).2.2.1 y = Target.xscale (X m c) (bat t) (row t (y 2)) (y 1) := by
  have h : (outsAt0 m c t.val t.isLt).2.2.1 y = View.canon (scales (iblk m c 0 t)) y := by
    by_cases h : t.val % 12 = 0
    · exact scales_A m c t h y
    · exact scales_B m c t h y
  exact h.trans ((scales_apply _ y).trans (bscale_eq m c t _ _))

/-- The stores of the dequantised weights, in terms of the argument arrays. -/
theorem wts_at (t : Fin cfg0.N) (y : S1152x4352.Idx) : View.canon (wts (iblk m c 1 t) (iblk m c 2 t)) y = Target.wdeq (P m c) (S m c) (y 0) (y 1) := by
  refine (wts_apply _ _ y).trans ?_
  unfold Target.wdeq
  refine congrArg₂ (· * ·) ?_ (blk_s m c t _)
  split
  · exact congrArg wlo (blk_p m c t _)
  · exact congrArg whi (blk_p m c t _)

/-- The dequantised weights after any point. -/
theorem wt_at (t : Fin cfg0.N) (y : S1152x4352.Idx) : (outsAt0 m c t.val t.isLt).2.2.2.1 y = Target.wdeq (P m c) (S m c) (y 0) (y 1) :=
  Pipeline.eq_of_write_hold_apply (fun n h => (outsAt0 m c n h).2.2.2.1) 12 (fun _ y => Target.wdeq (P m c) (S m c) (y 0) (y 1))
    (fun t h y => (wt_A m c t h y).trans (wts_at m c t y)) (fun t h y => wt_B m c t h y) t y

/-- The transposed second low-rank factor after any point. -/
theorem l2t_at (t : Fin cfg0.N) (y : S1152x64.Idx) : (outsAt0 m c t.val t.isLt).2.2.2.2 y = L2 m c (ix2 (y 1) (y 0)) :=
  Pipeline.eq_of_write_hold_apply (fun n h => (outsAt0 m c n h).2.2.2.2) 12 (fun _ y => L2 m c (ix2 (y 1) (y 0)))
    (fun t h y => (l2t_A m c t h y).trans ((l2t_apply _ y).trans (blk_l2 m c t _))) (fun t h y => l2t_B m c t h y) t y

/-- The block of `y` from weights and a second low-rank factor that are the argument arrays' own. -/
theorem yBlk_at (t : Fin cfg0.N) (wt : FVec Ideal S1152x4352 .bf16) (l2t : FVec Ideal S1152x64 .bf16)
    (hw : ∀ y, wt y = Target.wdeq (P m c) (S m c) (y 0) (y 1)) (hl : ∀ y, l2t y = L2 m c (ix2 (y 1) (y 0))) (y : S256x1152.Idx) :
    yBlk wt (whole (xds (iblk m c 0 t))) (iblk m c 3 t) (whole (xts (iblk m c 0 t))) l2t y
      = Target.y (X m c) (P m c) (S m c) (L1 m c) (L2 m c) (bat t) (row t (y 0)) (y 1) := by
  rw [yBlk_apply]
  unfold Target.y
  refine congrArg₂ (· + ·) (Finset.sum_congr rfl fun k _ => congrArg₂ (· * ·) (hw _) ?_)
    (Finset.sum_congr rfl fun r _ => congrArg₂ (· * ·) (hl _) (Finset.sum_congr rfl fun k _ => congrArg₂ (· * ·) (blk_l1 m c t _) ?_))
  · exact (whole_apply _ _).trans ((xds_apply _ _).trans (congrArg₂ (· * ·) (bcode_eq m c t _ _) (bscale_eq m c t _ _)))
  · exact (whole_apply _ _).trans ((xts_apply _ _).trans (blk_x m c t _))

/-- The block of `y` that a point leaves. -/
theorem y_at (t : Fin cfg0.N) (y : S256x1152.Idx) : (outsAt0 m c t.val t.isLt).1 y
    = Target.y (X m c) (P m c) (S m c) (L1 m c) (L2 m c) (bat t) (row t (y 0)) (y 1) := by
  by_cases h : t.val % 12 = 0
  · refine (y_A m c t h y).trans (yBlk_at m c t _ _ (fun j => ?_) (fun j => (l2t_apply _ j).trans (blk_l2 m c t _)) y)
    refine (congrArg _ ?_).trans (wts_at m c t j)
    funext a; apply Fin.ext; fin_cases a <;> simp [Rect.idx_unit_val]
  · have ht : t.val - 1 < cfg0.N := Nat.lt_of_le_of_lt (Nat.sub_le _ _) t.isLt
    exact (y_B m c t h y).trans (yBlk_at m c t _ _ (fun j => wt_at m c ⟨t.val - 1, ht⟩ j) (fun j => l2t_at m c ⟨t.val - 1, ht⟩ j) y)

end Cert.KernelIdeal.Points
-- ==== Proof.Arrays.lean ====
/- The kernel's three results after the run, in terms of the argument arrays. -/
module

public import proofs.«01_k».proof.Proof.Points

@[expose] public section

set_option maxRecDepth 16384

noncomputable section

namespace Cert.KernelIdeal.Arrays

open Idealize.ShloMosaic Idealize.ShloMosaic.TcCoe Idealize.ShloMosaic.Tactic
open Cert.KernelIdeal Cert.KernelIdeal.Gen Cert.KernelIdeal.Points

variable (m : (ℓ : Loc nD τ sig) → Buf (Elt Ideal) ℓ) (c : Dev nD)

/-- The array of `y` after the run. -/
theorem arr_y : (dats m 0 c).arrAt 5 (cfgs 0).N = fun i : S3072x1152.Idx => Target.y (X m c) (P m c) (S m c) (L1 m c) (L2 m c)
    ⟨(i 0).val / 1024, by have : (i 0).val < 3072 := (i 0).isLt; omega⟩ ⟨(i 0).val % 1024, by omega⟩ (i 1) := by
  refine (dats m 0 c).arrAt_eq_of_covers 5 _ (by decide +kernel) fun t hf y => ?_
  have h0 := lt t
  have hy : (y 0).val < 256 := (y 0).isLt
  blk_simp
  rw [after0_5]
  refine (y_at m c t y).trans ?_
  have e : win0_5.index t 0 = t.val := congrFun (idx t).2.2.2.2.2.1 0
  congr 1
  · exact Fin.ext (by simp only [e]; show t.val / 4 = _; omega)
  · exact Fin.ext (by simp only [e]; show 256 * (t.val % 4) + (y 0).val = _; omega)
  · exact Fin.ext (by blk_simp [idx t])

/-- The array of packed codes after the run. -/
theorem arr_codes : (dats m 0 c).arrAt 6 (cfgs 0).N = fun i : S3072x2176.Idx => Target.packed (X m c)
    ⟨(i 0).val / 1024, by have : (i 0).val < 3072 := (i 0).isLt; omega⟩ ⟨(i 0).val % 1024, by omega⟩ (i 1) := by
  refine (dats m 0 c).arrAt_eq_of_covers 6 _ (by decide +kernel) fun t hf y => ?_
  have h0 := lt t
  have hy : (y 0).val < 256 := (y 0).isLt
  blk_simp
  rw [after0_6]
  refine (codes_at m c t y).trans ?_
  have e : win0_6.index t 0 = t.val := congrFun (idx t).2.2.2.2.2.2.1 0
  congr 1
  · exact Fin.ext (by simp only [e]; show t.val / 4 = _; omega)
  · exact Fin.ext (by simp only [e]; show 256 * (t.val % 4) + (y 0).val = _; omega)
  · exact Fin.ext (by blk_simp [idx t])

/-- The array of scales after the run. -/
theorem arr_scales : (dats m 0 c).arrAt 7 (cfgs 0).N = fun i : S3x68x1024.Idx => Target.xscale (X m c) (i 0) (i 2) (i 1) := by
  refine (dats m 0 c).arrAt_eq_of_covers 7 _ (by decide +kernel) fun t hf y => ?_
  have h0 := lt t
  have hy : (y 2).val < 256 := (y 2).isLt
  have hy0 : (y 0).val < 1 := (y 0).isLt
  blk_simp
  rw [after0_7]
  refine (scales_at m c t y).trans ?_
  unfold bat row
  congr 1
  · exact Fin.ext (by blk_simp [idx t])
  · exact Fin.ext (by blk_simp [idx t]; simp; omega)
  · exact Fin.ext (by blk_simp [idx t])

/-- No two windows have one array. -/
theorem arr_inj : Function.Injective (Pipeline.arrRef (cfgs 0).spec) := by decide

/-- The first result after the run. -/
theorem tail_y : Pipeline.afterTail₀ cfgs (dats m) 0 (V0 m) [hostOps1] c main_v4
    = fun i : S3x1024x1152.Idx => Target.y (X m c) (P m c) (S m c) (L1 m c) (L2 m c) (i 0) (i 1) (i 2) := by
  unfold Pipeline.afterTail₀
  simp only [List.flatten_cons, List.flatten_nil, List.append_nil]
  unfold hostOps1
  after_results
  have h := Pipeline.withArrays_arr (cfgs 0).spec arr_inj c (V0 m c) (fun w => (dats m 0 c).arrAt w (cfgs 0).N) 5
  have e : ∀ x : S3072x1152.Idx → EReal, shapeCast S3x1024x1152 x shapeCasts_S3072x1152_S3x1024x1152
     = fun i => x (ix2 ⟨(i 0).val * 1024 + (i 1).val, by have : (i 0).val < 3 := (i 0).isLt; have : (i 1).val < 1024 := (i 1).isLt; omega⟩ (i 2)) := by
    intro x; funext i; pointwise
  refine (congrArg (shapeCast S3x1024x1152 · shapeCasts_S3072x1152_S3x1024x1152) (h.trans (arr_y m c))).trans ((e _).trans ?_)
  funext i
  have : (i 1).val < 1024 := (i 1).isLt
  congr 1
  · exact Fin.ext (by simp; omega)
  · exact Fin.ext (by simp; omega)

/-- The second result after the run. -/
theorem tail_codes : Pipeline.afterTail₀ cfgs (dats m) 0 (V0 m) [hostOps1] c main_v5
    = fun i : S3x1024x2176.Idx => Target.packed (X m c) (i 0) (i 1) (i 2) := by
  unfold Pipeline.afterTail₀
  simp only [List.flatten_cons, List.flatten_nil, List.append_nil]
  unfold hostOps1
  after_results
  have h := Pipeline.withArrays_arr (cfgs 0).spec arr_inj c (V0 m c) (fun w => (dats m 0 c).arrAt w (cfgs 0).N) 6
  have e : ∀ x : S3072x2176.Idx → BitVec 8, shapeCast S3x1024x2176 x shapeCasts_S3072x2176_S3x1024x2176
     = fun i => x (ix2 ⟨(i 0).val * 1024 + (i 1).val, by have : (i 0).val < 3 := (i 0).isLt; have : (i 1).val < 1024 := (i 1).isLt; omega⟩ (i 2)) := by
    intro x; funext i; pointwise
  refine (congrArg (shapeCast S3x1024x2176 · shapeCasts_S3072x2176_S3x1024x2176) (h.trans (arr_codes m c))).trans ((e _).trans ?_)
  funext i
  have : (i 1).val < 1024 := (i 1).isLt
  congr 1
  · exact Fin.ext (by simp; omega)
  · exact Fin.ext (by simp; omega)

/-- The third result after the run. -/
theorem tail_scales : Pipeline.afterTail₀ cfgs (dats m) 0 (V0 m) [hostOps1] c main_v6
    = fun i : S3x1024x68.Idx => Target.xscale (X m c) (i 0) (i 1) (i 2) := by
  unfold Pipeline.afterTail₀
  simp only [List.flatten_cons, List.flatten_nil, List.append_nil]
  unfold hostOps1
  after_results
  have h := Pipeline.withArrays_arr (cfgs 0).spec arr_inj c (V0 m c) (fun w => (dats m 0 c).arrAt w (cfgs 0).N) 7
  have e : ∀ x : S3x68x1024.Idx → EReal, transpose S3x1024x68 [0, 2, 1] x transposes_S3x68x1024_S3x1024x68_0_2_1
     = fun i => x (ix3 (i 0) (i 2) (i 1)) := by
    intro x; funext i; pointwise
  exact (congrArg (transpose S3x1024x68 [0, 2, 1] · transposes_S3x68x1024_S3x1024x68_0_2_1) (h.trans (arr_scales m c))).trans (e _)

end Cert.KernelIdeal.Arrays
-- ==== Proof.RefValue.lean ====
/- What the reference computes: its three results at an index are the ones of `Target`. -/
module

public import proofs.«01_k».proof.Proof.Gen.ReferenceIdeal.Read
public import proofs.«01_k».proof.Proof.Target

@[expose] public section

set_option maxRecDepth 16384

noncomputable section

namespace Cert.ReferenceIdeal.RefValue

open Idealize.ShloMosaic Cert.Spec Cert.Target Cert.ReferenceIdeal Cert.ReferenceIdeal.Gen Cert.ReferenceIdeal.Read

/-- The activations as they lie in memory. -/
abbrev A0 : Type := (⟨S3x1024x4352, .bf16⟩ : BufTy).Contents (Elt Ideal)
/-- The packed weights as they lie in memory. -/
abbrev A1 : Type := (⟨S4352x576, .i8⟩ : BufTy).Contents (Elt Ideal)
/-- The weight scales as they lie in memory. -/
abbrev A2 : Type := (⟨S34x1152, .f32⟩ : BufTy).Contents (Elt Ideal)
/-- The first low-rank factor as it lies in memory. -/
abbrev A3 : Type := (⟨S4352x64, .bf16⟩ : BufTy).Contents (Elt Ideal)
/-- The second low-rank factor as it lies in memory. -/
abbrev A4 : Type := (⟨S64x1152, .bf16⟩ : BufTy).Contents (Elt Ideal)

/-- The position of an activation within its group splits its column. -/
theorem v1_at (x0 : A0) (i : S3x1024x68x64.Idx) :
    val_main_v1 (F := Ideal) x0 i = x0 (ix3 (i 0) (i 1) ⟨64 * (i 2).val + (i 3).val, by have := (i 2).isLt; have := (i 3).isLt; simp at *; omega⟩) := by
  rw [val_main_v1_apply]
  show x0 _ = x0 _
  have h0 : (i 0).val < 3 := (i 0).isLt
  have h1 : (i 1).val < 1024 := (i 1).isLt
  have h2 : (i 2).val < 68 := (i 2).isLt
  have h3 : (i 3).val < 64 := (i 3).isLt
  refine congrArg x0 (funext fun a => Fin.ext ?_)
  fin_cases a
  · show ((((i 0).val * 1024 + (i 1).val) * 68 + (i 2).val) * 64 + (i 3).val) / 4456448 = (i 0).val; omega
  · show ((((i 0).val * 1024 + (i 1).val) * 68 + (i 2).val) * 64 + (i 3).val) / 4352 % 1024 = (i 1).val; omega
  · show ((((i 0).val * 1024 + (i 1).val) * 68 + (i 2).val) * 64 + (i 3).val) % 4352 = 64 * (i 2).val + (i 3).val; omega

/-- The greatest of the absolute values over the last axis, for any array. -/
theorem reduce_abs (x : FVec Ideal S3x1024x68x64 .f32) (h : S3x1024x68x64.Reduces [3] S3x1024x68) (j : S3x1024x68.Idx) :
    Host.reduce FloatOps.maximumf (Host.absf x) (val_main_cst (F := Ideal)) reducesTo_S3x1024x68x64_S3x1024x68_d3 h_S_ j
      = amax fun r => x (h.lift j r) := by
  rw [Host.reduce_eq_fold_single FloatOps.maximumf _ _ _ h]
  rfl

/-- The reduction over a group is its greatest absolute value. -/
theorem v3_at (x0 : A0) (j : S3x1024x68.Idx) :
    val_main_v3 (F := Ideal) x0 j = amax fun r => x0 (ix3 (j 0) (j 1) ⟨64 * (j 2).val + r.val, by have := (j 2).isLt; simp at *; omega⟩) := by
  have h : S3x1024x68x64.Reduces [3] S3x1024x68 := by decide
  unfold val_main_v3 val_main_v2
  rw [reduce_abs _ h]
  refine congrArg amax (funext fun r => ?_)
  rw [v1_at]
  have e0 : (h.lift j r) 0 = j 0 := Fin.ext (Shape.Reduces.lift_val _ _ _ _)
  have e1 : (h.lift j r) 1 = j 1 := Fin.ext (Shape.Reduces.lift_val _ _ _ _)
  have e2 : ((h.lift j r) 2).val = (j 2).val := Shape.Reduces.lift_val _ _ _ _
  have e3 : ((h.lift j r) 3).val = r.val := Shape.Reduces.lift_val _ _ _ _
  simp only [e0, e1, e2, e3]

/-- The third result: the scale of a group. -/
theorem v8_at (x0 : A0) (j : S3x1024x68.Idx) : val_main_v8 (F := Ideal) x0 j = xscale x0 (j 0) (j 1) (j 2) := by
  rw [val_main_v8_apply, val_main_v5_apply, val_main_v7_apply, val_main_v4_apply, val_main_v6_apply, val_main_call0_v1_apply,
    val_main_call0_v0_apply, val_main_cst_0_apply, val_main_cst_1_apply, val_main_cst_2_apply, v3_at]
  unfold xscale
  generalize (amax _ : EReal) = a
  rfl

/-- The clipped rounded quotient is the code of the two operands, as the chain of operations has it. -/
theorem v13_eq (x0 : A0) (i : S3x1024x68x64.Idx) :
    val_main_v13 (F := Ideal) x0 i = code (val_main_v1 (F := Ideal) x0 i) (val_main_v10 (F := Ideal) x0 i) := by
  rw [val_main_v13_apply, val_main_call2_v4_apply, val_main_call2_v3_apply, val_main_cst_4_apply, val_main_call2_v2_apply,
    val_main_call2_v1_apply, val_main_call2_v0_apply, val_main_cst_3_apply, val_main_v12_apply, val_main_v11_apply]
  generalize val_main_v1 (F := Ideal) x0 i = a
  generalize val_main_v10 (F := Ideal) x0 i = b
  rfl

/-- The scale spread over its group. -/
theorem v10_at (x0 : A0) (i : S3x1024x68x64.Idx) : val_main_v10 (F := Ideal) x0 i = xscale x0 (i 0) (i 1) (i 2) := by
  rw [val_main_v10_apply, val_main_v9_apply, v8_at]
  exact congr (congr (congrArg (xscale x0) (Fin.ext rfl)) (Fin.ext rfl)) (Fin.ext rfl)

/-- The clipped rounded quotient is the code. -/
theorem v13_at (x0 : A0) (i : S3x1024x68x64.Idx) :
    val_main_v13 (F := Ideal) x0 i = code (x0 (ix3 (i 0) (i 1) ⟨64 * (i 2).val + (i 3).val, by have := (i 2).isLt; have := (i 3).isLt; simp at *; omega⟩))
      (xscale x0 (i 0) (i 1) (i 2)) := by
  rw [v13_eq, v10_at, v1_at]

/-- The scale in half precision spread over its group. -/
theorem v19_at (x0 : A0) (i : S3x1024x68x64.Idx) : val_main_v19 (F := Ideal) x0 i = xscale x0 (i 0) (i 1) (i 2) := by
  rw [val_main_v19_apply, val_main_v18_apply, val_main_v17_apply, v8_at]
  show xscale x0 _ _ _ = _
  exact congr (congr (congrArg (xscale x0) (Fin.ext rfl)) (Fin.ext rfl)) (Fin.ext rfl)

/-- The code converted to an integer and back. -/
theorem v16_at (x0 : A0) (i : S3x1024x68x64.Idx) : val_main_v16 (F := Ideal) x0 i = val_main_v13 (F := Ideal) x0 i := by
  rw [val_main_v16_apply, val_main_v15_apply, val_main_v14_apply, v13_eq]
  exact code_roundtrip _ _

/-- The dequantised activation, group by group. -/
theorem v20_at (x0 : A0) (i : S3x1024x68x64.Idx) :
    val_main_v20 (F := Ideal) x0 i = (val_main_v13 (F := Ideal) x0 i : EReal) * xscale x0 (i 0) (i 1) (i 2) := by
  rw [val_main_v20_apply, v19_at, v16_at]
  rfl

/-- Column `k` of a row is place `k % 64` of group `k / 64`. -/
theorem split_idx (i : S3x1024x4352.Idx) :
    idx_main_v21 i 0 = i 0 ∧ idx_main_v21 i 1 = i 1 ∧ (idx_main_v21 i 2).val = (i 2).val / 64 ∧ (idx_main_v21 i 3).val = (i 2).val % 64 := by
  have h0 : (i 0).val < 3 := (i 0).isLt
  have h1 : (i 1).val < 1024 := (i 1).isLt
  have h2 : (i 2).val < 4352 := (i 2).isLt
  refine ⟨Fin.ext ?_, Fin.ext ?_, ?_, ?_⟩
  · show (((i 0).val * 1024 + (i 1).val) * 4352 + (i 2).val) / 4456448 = (i 0).val; omega
  · show (((i 0).val * 1024 + (i 1).val) * 4352 + (i 2).val) / 4352 % 1024 = (i 1).val; omega
  · show (((i 0).val * 1024 + (i 1).val) * 4352 + (i 2).val) / 64 % 68 = _; omega
  · show (((i 0).val * 1024 + (i 1).val) * 4352 + (i 2).val) % 64 = _; omega

/-- The code read at the split index of a column is that column's code. -/
theorem code_split (x0 : A0) (i : S3x1024x4352.Idx) :
    val_main_v13 (F := Ideal) x0 (idx_main_v21 i) = xcode x0 (i 0) (i 1) (i 2) := by
  obtain ⟨e0, e1, e2, e3⟩ := split_idx i
  have h2 : (i 2).val < 4352 := (i 2).isLt
  have e4 : idx_main_v21 i 2 = (⟨(i 2).val / 64, by omega⟩ : Fin 68) := Fin.ext e2
  have e5 : 64 * (idx_main_v21 i 2).val + (idx_main_v21 i 3).val = (i 2).val := by omega
  rw [v13_at]
  simp only [e0, e1, e5, e4]
  rfl

/-- The scale read at the split index of a column is that of the column's group. -/
theorem scale_split (x0 : A0) (i : S3x1024x4352.Idx) :
    xscale x0 (idx_main_v21 i 0) (idx_main_v21 i 1) (idx_main_v21 i 2)
      = xscale x0 (i 0) (i 1) ⟨(i 2).val / 64, by have := (i 2).isLt; simp at *; omega⟩ := by
  obtain ⟨e0, e1, e2, -⟩ := split_idx i
  have h2 : (i 2).val < 4352 := (i 2).isLt
  have e4 : idx_main_v21 i 2 = (⟨(i 2).val / 64, by omega⟩ : Fin 68) := Fin.ext e2
  rw [e0, e1, e4]

/-- The dequantised activation. -/
theorem v21_at (x0 : A0) (i : S3x1024x4352.Idx) : val_main_v21 (F := Ideal) x0 i = xdeq x0 (i 0) (i 1) (i 2) := by
  rw [val_main_v21_apply, v20_at, code_split, scale_split]
  rfl

/-- The integer code of a column. -/
theorem v64_at (x0 : A0) (i : S3x1024x4352.Idx) : val_main_v64 (F := Ideal) x0 i = Ideal.fptosi 32 (xcode x0 (i 0) (i 1) (i 2)) := by
  rw [val_main_v64_apply]
  rw [val_main_v14_apply]
  exact congrArg (Ideal.fptosi 32) (code_split x0 i)

/-- The codes of the even columns. -/
theorem v65_at (x0 : A0) (i : S3x1024x2176.Idx) :
    val_main_v65 (F := Ideal) x0 i = Ideal.fptosi 32 (xcode x0 (i 0) (i 1) ⟨2 * (i 2).val, by have := (i 2).isLt; simp at *; omega⟩) := by
  unfold val_main_v65
  rw [Host.slice_apply, v64_at]
  simp only [Shape.Idx.norm_def]
  congr 2 <;> exact Fin.ext (by simp)

/-- The codes of the odd columns. -/
theorem v68_at (x0 : A0) (i : S3x1024x2176.Idx) :
    val_main_v68 (F := Ideal) x0 i = Ideal.fptosi 32 (xcode x0 (i 0) (i 1) ⟨2 * (i 2).val + 1, by have := (i 2).isLt; simp at *; omega⟩) := by
  unfold val_main_v68
  rw [Host.slice_apply, v64_at]
  simp only [Shape.Idx.norm_def]
  congr 2 <;> exact Fin.ext (by simp; try omega)

/-- The second result: two codes in a byte. -/
theorem v74_at (x0 : A0) (i : S3x1024x2176.Idx) : val_main_v74 (F := Ideal) x0 i = packed x0 (i 0) (i 1) (i 2) := by
  rw [val_main_v74_apply, val_main_v73_apply, val_main_v67_apply, val_main_v66_apply, val_main_c_10_apply, val_main_v72_apply,
    val_main_v70_apply, val_main_v69_apply, val_main_c_11_apply, val_main_v71_apply, val_main_c_12_apply, v65_at, v68_at]
  rfl

/-- The low code of a packed weight byte. -/
theorem wlo_at (x1 : A1) (i : S4352x576.Idx) :
    (FloatOps.truncf (F := Ideal) .bf16 bitsLt_bf16_f32 (FloatOps.sitofp (F := Ideal) .f32 (val_main_v28 (F := Ideal) x1 i)) : EReal) = wlo (x1 i) := by
  rw [val_main_v28_apply, val_main_v26_apply, val_main_v24_apply, val_main_v27_apply, val_main_v25_apply, val_main_v23_apply,
    val_main_v22_apply, val_main_c_apply, val_main_c_5_apply, val_main_c_6_apply]
  rfl

/-- The high code of a packed weight byte. -/
theorem whi_at (x1 : A1) (i : S4352x576.Idx) :
    (FloatOps.truncf (F := Ideal) .bf16 bitsLt_bf16_f32 (FloatOps.sitofp (F := Ideal) .f32 (val_main_v34 (F := Ideal) x1 i)) : EReal) = whi (x1 i) := by
  rw [val_main_v34_apply, val_main_v32_apply, val_main_v30_apply, val_main_v33_apply, val_main_v31_apply, val_main_v29_apply,
    val_main_v22_apply, val_main_c_7_apply, val_main_c_8_apply, val_main_c_9_apply]
  rfl

/-- The even outputs' weights. -/
theorem v43_at (x1 : A1) (x2 : A2) (i : S4352x576.Idx) :
    val_main_v43 (F := Ideal) x1 x2 i = wdeq x1 x2 ⟨2 * (i 1).val, by have := (i 1).isLt; simp at *; omega⟩ (i 0) := by
  have h0 : (i 0).val < 4352 := (i 0).isLt
  have h1 : (i 1).val < 576 := (i 1).isLt
  rw [val_main_v43_apply, val_main_v42_apply, val_main_v38_apply, val_main_v37_apply, val_main_v36_apply, wlo_at,
    val_main_v41_apply, val_main_v40_apply, val_main_v39_apply]
  unfold val_main_v35 wdeq
  rw [Host.slice_apply, if_pos (by simp)]
  simp only [Shape.Idx.norm_def]
  refine congrArg₂ (fun a b : EReal => a * b) (congrArg wlo (congrArg x1 (funext fun a => Fin.ext ?_))) (congrArg x2 (funext fun a => Fin.ext ?_))
  · fin_cases a
    · simp; omega
    · simp; omega
  · fin_cases a <;> simp <;> omega

/-- The odd outputs' weights. -/
theorem v53_at (x1 : A1) (x2 : A2) (i : S4352x576.Idx) :
    val_main_v53 (F := Ideal) x1 x2 i = wdeq x1 x2 ⟨2 * (i 1).val + 1, by have := (i 1).isLt; simp at *; omega⟩ (i 0) := by
  have h0 : (i 0).val < 4352 := (i 0).isLt
  have h1 : (i 1).val < 576 := (i 1).isLt
  rw [val_main_v53_apply, val_main_v52_apply, val_main_v48_apply, val_main_v47_apply, val_main_v46_apply, whi_at,
    val_main_v51_apply, val_main_v50_apply, val_main_v49_apply]
  unfold val_main_v45 wdeq
  rw [Host.slice_apply, if_neg (by simp; try omega)]
  simp only [Shape.Idx.norm_def]
  refine congrArg₂ (fun a b : EReal => a * b) (congrArg whi (congrArg x1 (funext fun a => Fin.ext ?_))) (congrArg x2 (funext fun a => Fin.ext ?_))
  · fin_cases a
    · simp; omega
    · simp; omega
  · fin_cases a <;> simp <;> omega

/-- The quantised product at an even output. -/
theorem v44_at (x0 : A0) (x1 : A1) (x2 : A2) (i : S3x1024x576.Idx) :
    val_main_v44 (F := Ideal) x0 x1 x2 i
      = ∑ k : Fin 4352, wdeq x1 x2 ⟨2 * (i 2).val, by have := (i 2).isLt; simp at *; omega⟩ k * xdeq x0 (i 0) (i 1) k := by
  rw [val_main_v44_apply]
  refine Finset.sum_congr rfl fun k _ => ?_
  rw [v21_at, v43_at, mul_comm]
  rfl

/-- The quantised product at an odd output. -/
theorem v54_at (x0 : A0) (x1 : A1) (x2 : A2) (i : S3x1024x576.Idx) :
    val_main_v54 (F := Ideal) x0 x1 x2 i
      = ∑ k : Fin 4352, wdeq x1 x2 ⟨2 * (i 2).val + 1, by have := (i 2).isLt; simp at *; omega⟩ k * xdeq x0 (i 0) (i 1) k := by
  rw [val_main_v54_apply]
  refine Finset.sum_congr rfl fun k _ => ?_
  rw [v21_at, v53_at, mul_comm]
  rfl

/-- The quantised product, even and odd outputs interleaved. -/
theorem v58_at (x0 : A0) (x1 : A1) (x2 : A2) (i : S3x1024x1152.Idx) :
    val_main_v58 (F := Ideal) x0 x1 x2 i = ∑ k : Fin 4352, wdeq x1 x2 (i 2) k * xdeq x0 (i 0) (i 1) k := by
  have h0 : (i 0).val < 3 := (i 0).isLt
  have h1 : (i 1).val < 1024 := (i 1).isLt
  have h2 : (i 2).val < 1152 := (i 2).isLt
  have e0 : idx_main_v58 i 0 = i 0 := Fin.ext (by
    show (((i 0).val * 1024 + (i 1).val) * 1152 + (i 2).val) / 1179648 = (i 0).val; omega)
  have e1 : idx_main_v58 i 1 = i 1 := Fin.ext (by
    show (((i 0).val * 1024 + (i 1).val) * 1152 + (i 2).val) / 1152 % 1024 = (i 1).val; omega)
  have e2 : (idx_main_v58 i 2).val = (i 2).val / 2 := by
    show (((i 0).val * 1024 + (i 1).val) * 1152 + (i 2).val) / 2 % 576 = _; omega
  have e3 : (idx_main_v58 i 3).val = (i 2).val % 2 := by
    show (((i 0).val * 1024 + (i 1).val) * 1152 + (i 2).val) % 2 = _; omega
  rw [val_main_v58_apply]
  unfold val_main_v57
  rw [concatenate_pair_apply]
  simp only [Shape.Idx.norm_def]
  split
  · rename_i h
    have h : (idx_main_v58 i 3).val < 1 := h
    rw [val_main_v55_apply, v44_at]
    refine Finset.sum_congr rfl fun k _ => congrArg₂ (fun a b : EReal => a * b) ?_ ?_
    · refine congrArg (fun n => wdeq x1 x2 n k) (Fin.ext ?_)
      show 2 * (idx_main_v58 i 2).val = (i 2).val
      omega
    · exact congr (congr (congrArg (xdeq x0) e0) e1) rfl
  · rename_i h
    have h : ¬ (idx_main_v58 i 3).val < 1 := h
    rw [val_main_v56_apply, v54_at]
    refine Finset.sum_congr rfl fun k _ => congrArg₂ (fun a b : EReal => a * b) ?_ ?_
    · refine congrArg (fun n => wdeq x1 x2 n k) (Fin.ext ?_)
      show 2 * (idx_main_v58 i 2).val + 1 = (i 2).val
      omega
    · exact congr (congr (congrArg (xdeq x0) e0) e1) rfl

/-- The first result: the quantised product plus the low-rank branch. -/
theorem v63_at (x0 : A0) (x1 : A1) (x2 : A2) (x3 : A3) (x4 : A4) (i : S3x1024x1152.Idx) :
    val_main_v63 (F := Ideal) x0 x1 x2 x3 x4 i = Target.y x0 x1 x2 x3 x4 (i 0) (i 1) (i 2) := by
  rw [val_main_v63_apply, val_main_v62_apply, v58_at, val_main_v61_apply]
  unfold Target.y
  refine congrArg₂ (fun a b : EReal => a + b) rfl (Finset.sum_congr rfl fun r _ => ?_)
  rw [val_main_v60_apply, val_main_v59_apply, mul_comm]
  refine congrArg₂ (fun a b : EReal => a * b) (congrArg x4 (by funext a; fin_cases a <;> rfl)) (Finset.sum_congr rfl fun k _ => ?_)
  rw [mul_comm]
  exact congrArg₂ (fun a b : EReal => a * b) (congrArg x3 (by funext a; fin_cases a <;> rfl)) (congrArg x0 (by funext a; fin_cases a <;> rfl))

end Cert.ReferenceIdeal.RefValue
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Arrays
public import proofs.«01_k».proof.Proof.RefValue
public import Idealize.ShloMosaic.Adequacy
public import Idealize.ShloMosaic.Init

@[expose] public section

noncomputable section

namespace Cert.Proof

open Idealize.ShloMosaic Idealize.SL.Sem

/-- The kernel's run over the extended reals: its three results are the ones of `Target`, and its arguments are unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v4)
          = (fun i : Cert.KernelIdeal.S3x1024x1152.Idx => Target.y (Cert.KernelIdeal.Points.X m c) (Cert.KernelIdeal.Points.P m c) (Cert.KernelIdeal.Points.S m c)
              (Cert.KernelIdeal.Points.L1 m c) (Cert.KernelIdeal.Points.L2 m c) (i 0) (i 1) (i 2))
        ∧ r.2.mem ((c.tc : Thread Cert.KernelIdeal.nD Cert.KernelIdeal.τ).loc Cert.KernelIdeal.main_v5)
          = (fun i : Cert.KernelIdeal.S3x1024x2176.Idx => Target.packed (Cert.KernelIdeal.Points.X m c) (i 0) (i 1) (i 2))
        ∧ r.2.mem ((c.tc : Thread Cert.KernelIdeal.nD Cert.KernelIdeal.τ).loc Cert.KernelIdeal.main_v6)
          = (fun i : Cert.KernelIdeal.S3x1024x68.Idx => Target.xscale (Cert.KernelIdeal.Points.X m c) (i 0) (i 1) (i 2)))
      ∧ ∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  refine (θ_run _ _ _).mono ?_ (θ_run_and (Cert.KernelIdeal.Gen.run_main m g) (Cert.KernelIdeal.Gen.unchanged m g))
  intro r h
  refine ⟨fun c => ⟨?_, ?_, ?_⟩, h.2⟩
  · exact ((h.1 c).2 Cert.KernelIdeal.main_v4 (by decide)).trans (Cert.KernelIdeal.Arrays.tail_y m c)
  · exact ((h.1 c).2 Cert.KernelIdeal.main_v5 (by decide)).trans (Cert.KernelIdeal.Arrays.tail_codes m c)
  · exact ((h.1 c).2 Cert.KernelIdeal.main_v6 (by decide)).trans (Cert.KernelIdeal.Arrays.tail_scales m c)

/-- From equal arguments, kernel and reference leave equal results. -/
theorem algebraic : Cert.algebraic_KernelIdeal_ReferenceIdeal (hKernelIdeal := Cert.KernelIdeal.Gen.facts) (hReferenceIdeal := Cert.ReferenceIdeal.Gen.facts) := by
  intro m g m' g' _ he
  refine ⟨fun c => (fun i : Cert.KernelIdeal.S3x1024x1152.Idx => Target.y (Cert.KernelIdeal.Points.X m c) (Cert.KernelIdeal.Points.P m c) (Cert.KernelIdeal.Points.S m c)
              (Cert.KernelIdeal.Points.L1 m c) (Cert.KernelIdeal.Points.L2 m c) (i 0) (i 1) (i 2)),
    fun c => (fun i : Cert.KernelIdeal.S3x1024x2176.Idx => Target.packed (Cert.KernelIdeal.Points.X m c) (i 0) (i 1) (i 2)),
    fun c => (fun i : Cert.KernelIdeal.S3x1024x68.Idx => Target.xscale (Cert.KernelIdeal.Points.X m c) (i 0) (i 1) (i 2)), ?_, ?_⟩
  · exact (θ_run _ _ _).mono (fun r h c => ⟨(h.1 c).1, (h.1 c).2.1, (h.1 c).2.2, h.2 c⟩) (kernel_run m g)
  · refine (θ_run _ _ _).mono ?_ (Cert.ReferenceIdeal.Value.run m' g')
    intro r h c
    obtain ⟨e0, e1, e2, e3, e4⟩ := he c
    obtain ⟨h0, h1, h2, hk⟩ := h c
    refine ⟨?_, ?_, ?_, hk⟩
    · refine (h0.trans (Cert.ReferenceIdeal.Read.val_main_v63_eq m' c)).trans ?_
      rw [e0, e1, e2, e3, e4]
      exact funext fun i => Cert.ReferenceIdeal.RefValue.v63_at _ _ _ _ _ i
    · refine (h1.trans (Cert.ReferenceIdeal.Read.val_main_v74_eq _)).trans ?_
      rw [e0]
      exact funext fun i => Cert.ReferenceIdeal.RefValue.v74_at _ i
    · refine (h2.trans (Cert.ReferenceIdeal.Read.val_main_v8_eq _)).trans ?_
      rw [e0]
      exact funext fun i => Cert.ReferenceIdeal.RefValue.v8_at _ i

/-- The reference terminates and keeps its arguments; it declares no counters. -/
theorem ref_frame : Cert.quiescent_ReferenceIdeal (hReferenceIdeal := Cert.ReferenceIdeal.Gen.facts) := by
  intro m ρ _
  exact (θ_run Cert.ReferenceIdeal.defs _ _).mono
    (fun r h => ⟨fun c => (h c).2.2.2, Idealize.ShloMosaic.sem_eq_zero_of_no_sems (by decide) r.2⟩)
    (Cert.ReferenceIdeal.Value.run m ρ)

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    ref_frame, trivial, algebraic⟩

end Cert.Proof

end
